-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite [hPre_finite : Cert.Pre_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.1 = (fun _ => 1#1)
    ∧ (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite [hPre_finite : Cert.Pre_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.1 = (fun _ => 1#1)
    ∧ (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite [hKernel13Ideal : Cert.Kernel13Ideal.Facts] [hPre_finite : Cert.Pre_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite [hReference13Ideal : Cert.Reference13Ideal.Facts] [hPre_finite : Cert.Pre_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v34)) (v1 : (c : Dev Cert.Kernel4Ideal.nD) → Buf (Elt Ideal) ((c.tc : Thread Cert.Kernel4Ideal.nD Cert.Kernel4Ideal.τ).loc Cert.Kernel4Ideal.main_v38)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34) = v0 c
          ∧ r.2.mem ((c.tc : Thread Cert.Kernel4Ideal.nD Cert.Kernel4Ideal.τ).loc Cert.Kernel4Ideal.main_v38) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v11)) (v2 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v11) = v1 c
          ∧ r.2.mem ((c.tc : Thread Cert.Kernel5Ideal.nD Cert.Kernel5Ideal.τ).loc Cert.Kernel5Ideal.main_v12) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v25) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)) (v1 : (c : Dev Cert.Kernel6Ideal.nD) → Buf (Elt Ideal) ((c.tc : Thread Cert.Kernel6Ideal.nD Cert.Kernel6Ideal.τ).loc Cert.Kernel6Ideal.main_v13)) (v2 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_v13) = v1 c
          ∧ r.2.mem ((c.tc : Thread Cert.Kernel6Ideal.nD Cert.Kernel6Ideal.τ).loc Cert.Kernel6Ideal.main_v14) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_v33) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v13) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite [hKernel13Ideal : Cert.Kernel13Ideal.Facts] [hReference13Ideal : Cert.Reference13Ideal.Facts] [hPre_finite : Cert.Pre_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v13)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite (hKernel13Ideal := hKernel13Ideal) (hPre_finite := hPre_finite)
    ∧ quiescent_Reference13Ideal (hReference13Ideal := hReference13Ideal)
    ∧ quiescent_Reference13Ideal_pre_finite (hReference13Ideal := hReference13Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite (hKernel13Ideal := hKernel13Ideal) (hReference13Ideal := hReference13Ideal) (hPre_finite := hPre_finite)
-- ==== Pre_finite.lean ====
abbrev S16384x1024 : Shape := ⟨2, ![16384, 1024]⟩
abbrev S2x1024 : Shape := ⟨2, ![2, 1024]⟩
abbrev S1x1024x8 : Shape := ⟨3, ![1, 1024, 8]⟩
abbrev S1x8 : Shape := ⟨2, ![1, 8]⟩
abbrev S_ : Shape := ⟨0, ![]⟩

class Facts : Prop where
  bcast_S_S16384x1024 : S_.BroadcastsInDim S16384x1024 (![] : Fin 0 → Fin S16384x1024.rank)
  bcast_S_S2x1024 : S_.BroadcastsInDim S2x1024 (![] : Fin 0 → Fin S2x1024.rank)
  bcast_S_S1x1024x8 : S_.BroadcastsInDim S1x1024x8 (![] : Fin 0 → Fin S1x1024x8.rank)
  bcast_S_S1x8 : S_.BroadcastsInDim S1x8 (![] : Fin 0 → Fin S1x8.rank)

variable [Facts]

def fn {F : FTy → Type} [FloatOps F] (main_arg0 : FVec F S16384x1024 .f32) (main_arg1 : FVec F S2x1024 .f32) (main_arg2 : FVec F S1x1024x8 .f32) (main_arg3 : FVec F S1x8 .f32) : IVec S16384x1024 1 × IVec S2x1024 1 × IVec S1x1024x8 1 × IVec S1x8 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x8 .f32 := Host.absf main_arg2
  let main_cst_1 : FVec F S_ .f32 := constant S_ .f32 0x7F800000#32
  let main_v7 : FVec F S1x1024x8 .f32 := broadcastInDim S1x1024x8 ![] bcast_S_S1x1024x8 main_cst_1
  let main_v8 : IVec S1x1024x8 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Kernel.lean ====
abbrev S16384x1024 : Shape := ⟨2, ![16384, 1024]⟩
abbrev S2x1024 : Shape := ⟨2, ![2, 1024]⟩
abbrev S16384x8 : Shape := ⟨2, ![16384, 8]⟩
abbrev S1x8x1024x3584 : Shape := ⟨4, ![1, 8, 1024, 3584]⟩
abbrev S1x8x3584x1024 : Shape := ⟨4, ![1, 8, 3584, 1024]⟩
abbrev S1x1024 : Shape := ⟨2, ![1, 1024]⟩
abbrev S1024 : Shape := ⟨1, ![1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S512x8 : Shape := ⟨2, ![512, 8]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x8, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S1x1024, .f32⟩
  | .hbm, ⟨7, _⟩ => ⟨S1024, .f32⟩
  | .hbm, ⟨8, _⟩ => ⟨S1x8x1024x3584, .bf16⟩
  | .hbm, ⟨9, _⟩ => ⟨S8x1024x3584, .bf16⟩
  | .hbm, ⟨10, _⟩ => ⟨S1x8x1024x3584, .bf16⟩
  | .hbm, ⟨11, _⟩ => ⟨S8x1024x3584, .bf16⟩
  | .hbm, ⟨12, _⟩ => ⟨S1x8x3584x1024, .bf16⟩
  | .hbm, ⟨13, _⟩ => ⟨S8x3584x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x8, .f32⟩
  | .local _ .vmem, ⟨4, _⟩ => ⟨S512x8, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 8, 7], ![false, false, false]⟩

def k0_cond4 (i : grid0.Coords) : BitVec 1 :=
  let arg1 : BitVec 32 := BitVec.ofNat 32 (i 1).val
  let c7_i32 : BitVec 32 := 7#32
  let v36 : BitVec 1 := Scalar.cmpi .eq arg1 c7_i32
  let arg2 : BitVec 32 := BitVec.ofNat 32 (i 2).val
  let c6_i32_24 : BitVec 32 := 6#32
  let v37 : BitVec 1 := Scalar.cmpi .eq arg2 c6_i32_24
  let v38 : BitVec 1 := Scalar.andi v36 v37
  let v39 : BitVec 32 := Scalar.extui v38
  let c0_i32_25 : BitVec 32 := 0#32
  let v40 : BitVec 1 := Scalar.cmpi .ne v39 c0_i32_25
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S16384x1024 : Shape := ⟨2, ![16384, 1024]⟩
abbrev S2x1024 : Shape := ⟨2, ![2, 1024]⟩
abbrev S16384x8 : Shape := ⟨2, ![16384, 8]⟩
abbrev S1x8x1024x3584 : Shape := ⟨4, ![1, 8, 1024, 3584]⟩
abbrev S1x8x3584x1024 : Shape := ⟨4, ![1, 8, 3584, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1x1024x3584 : Shape := ⟨4, ![1, 1, 1024, 3584]⟩
abbrev S1024x3584 : Shape := ⟨2, ![1024, 3584]⟩
abbrev S16384x3584 : Shape := ⟨2, ![16384, 3584]⟩
abbrev S1x1x3584x1024 : Shape := ⟨4, ![1, 1, 3584, 1024]⟩
abbrev S3584x1024 : Shape := ⟨2, ![3584, 1024]⟩

abbrev nBuf : Space → Nat
  | .hbm => 211
  | .vmem => 0
  | .smem => 0
  | _ => 0

abbrev hbmTy0_0 (i : Nat) : BufTy := match i % 128 with
  | 0 => ⟨S16384x1024, .f32⟩
  | 1 => ⟨S2x1024, .f32⟩
  | 2 => ⟨S16384x8, .f32⟩
  | 3 => ⟨S1x8x1024x3584, .f32⟩
  | 4 => ⟨S1x8x1024x3584, .f32⟩
  | 5 => ⟨S1x8x3584x1024, .f32⟩
  | 6 => ⟨S1x1024, .f32⟩
  | 7 => ⟨S1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S_, .f32⟩
  | 25 => ⟨S16384x1024, .f32⟩
  | 26 => ⟨S1x1x1024x3584, .f32⟩
  | 27 => ⟨S1024x3584, .f32⟩
  | 28 => ⟨S16384x3584, .f32⟩
  | 29 => ⟨S16384x3584, .f32⟩
  | 30 => ⟨S16384x3584, .f32⟩
  | 31 => ⟨S_, .f32⟩
  | 32 => ⟨S16384x3584, .f32⟩
  | 33 => ⟨S16384x3584, .f32⟩
  | 34 => ⟨S_, .f32⟩
  | 35 => ⟨S16384x3584, .f32⟩
  | 36 => ⟨S16384x3584, .f32⟩
  | 37 => ⟨S16384x3584, .f32⟩
  | 38 => ⟨S1x1x1024x3584, .f32⟩
  | 39 => ⟨S1024x3584, .f32⟩
  | 40 => ⟨S16384x3584, .f32⟩
  | 41 => ⟨S16384x3584, .f32⟩
  | 42 => ⟨S16384x1, .f32⟩
  | 43 => ⟨S1x1x3584x1024, .f32⟩
  | 44 => ⟨S3584x1024, .f32⟩
  | 45 => ⟨S16384x1024, .f32⟩
  | 46 => ⟨S16384x1024, .f32⟩
  | 47 => ⟨S16384x1024, .f32⟩
  | 48 => ⟨S16384x1024, .f32⟩
  | 49 => ⟨S1x1x1024x3584, .f32⟩
  | 50 => ⟨S1024x3584, .f32⟩
  | 51 => ⟨S16384x3584, .f32⟩
  | 52 => ⟨S16384x3584, .f32⟩
  | 53 => ⟨S16384x3584, .f32⟩
  | 54 => ⟨S_, .f32⟩
  | 55 => ⟨S16384x3584, .f32⟩
  | 56 => ⟨S16384x3584, .f32⟩
  | 57 => ⟨S_, .f32⟩
  | 58 => ⟨S16384x3584, .f32⟩
  | 59 => ⟨S16384x3584, .f32⟩
  | 60 => ⟨S16384x3584, .f32⟩
  | 61 => ⟨S1x1x1024x3584, .f32⟩
  | 62 => ⟨S1024x3584, .f32⟩
  | 63 => ⟨S16384x3584, .f32⟩
  | 64 => ⟨S16384x3584, .f32⟩
  | 65 => ⟨S16384x1, .f32⟩
  | 66 => ⟨S1x1x3584x1024, .f32⟩
  | 67 => ⟨S3584x1024, .f32⟩
  | 68 => ⟨S16384x1024, .f32⟩
  | 69 => ⟨S16384x1024, .f32⟩
  | 70 => ⟨S16384x1024, .f32⟩
  | 71 => ⟨S16384x1024, .f32⟩
  | 72 => ⟨S1x1x1024x3584, .f32⟩
  | 73 => ⟨S1024x3584, .f32⟩
  | 74 => ⟨S16384x3584, .f32⟩
  | 75 => ⟨S16384x3584, .f32⟩
  | 76 => ⟨S16384x3584, .f32⟩
  | 77 => ⟨S_, .f32⟩
  | 78 => ⟨S16384x3584, .f32⟩
  | 79 => ⟨S16384x3584, .f32⟩
  | 80 => ⟨S_, .f32⟩
  | 81 => ⟨S16384x3584, .f32⟩
  | 82 => ⟨S16384x3584, .f32⟩
  | 83 => ⟨S16384x3584, .f32⟩
  | 84 => ⟨S1x1x1024x3584, .f32⟩
  | 85 => ⟨S1024x3584, .f32⟩
  | 86 => ⟨S16384x3584, .f32⟩
  | 87 => ⟨S16384x3584, .f32⟩
  | 88 => ⟨S16384x1, .f32⟩
  | 89 => ⟨S1x1x3584x1024, .f32⟩
  | 90 => ⟨S3584x1024, .f32⟩
  | 91 => ⟨S16384x1024, .f32⟩
  | 92 => ⟨S16384x1024, .f32⟩
  | 93 => ⟨S16384x1024, .f32⟩
  | 94 => ⟨S16384x1024, .f32⟩
  | 95 => ⟨S1x1x1024x3584, .f32⟩
  | 96 => ⟨S1024x3584, .f32⟩
  | 97 => ⟨S16384x3584, .f32⟩
  | 98 => ⟨S16384x3584, .f32⟩
  | 99 => ⟨S16384x3584, .f32⟩
  | 100 => ⟨S_, .f32⟩
  | 101 => ⟨S16384x3584, .f32⟩
  | 102 => ⟨S16384x3584, .f32⟩
  | 103 => ⟨S_, .f32⟩
  | 104 => ⟨S16384x3584, .f32⟩
  | 105 => ⟨S16384x3584, .f32⟩
  | 106 => ⟨S16384x3584, .f32⟩
  | 107 => ⟨S1x1x1024x3584, .f32⟩
  | 108 => ⟨S1024x3584, .f32⟩
  | 109 => ⟨S16384x3584, .f32⟩
  | 110 => ⟨S16384x3584, .f32⟩
  | 111 => ⟨S16384x1, .f32⟩
  | 112 => ⟨S1x1x3584x1024, .f32⟩
  | 113 => ⟨S3584x1024, .f32⟩
  | 114 => ⟨S16384x1024, .f32⟩
  | 115 => ⟨S16384x1024, .f32⟩
  | 116 => ⟨S16384x1024, .f32⟩
  | 117 => ⟨S16384x1024, .f32⟩
  | 118 => ⟨S1x1x1024x3584, .f32⟩
  | 119 => ⟨S1024x3584, .f32⟩
  | 120 => ⟨S16384x3584, .f32⟩
  | 121 => ⟨S16384x3584, .f32⟩
  | 122 => ⟨S16384x3584, .f32⟩
  | 123 => ⟨S_, .f32⟩
  | 124 => ⟨S16384x3584, .f32⟩
  | 125 => ⟨S16384x3584, .f32⟩
  | 126 => ⟨S_, .f32⟩
  | 127 => ⟨S16384x3584, .f32⟩
  | _ => ⟨S16384x1024, .f32⟩

abbrev hbmTy0_1 (i : Nat) : BufTy := match i % 128 with
  | 0 => ⟨S16384x3584, .f32⟩
  | 1 => ⟨S16384x3584, .f32⟩
  | 2 => ⟨S1x1x1024x3584, .f32⟩
  | 3 => ⟨S1024x3584, .f32⟩
  | 4 => ⟨S16384x3584, .f32⟩
  | 5 => ⟨S16384x3584, .f32⟩
  | 6 => ⟨S16384x1, .f32⟩
  | 7 => ⟨S1x1x3584x1024, .f32⟩
  | 8 => ⟨S3584x1024, .f32⟩
  | 9 => ⟨S16384x1024, .f32⟩
  | 10 => ⟨S16384x1024, .f32⟩
  | 11 => ⟨S16384x1024, .f32⟩
  | 12 => ⟨S16384x1024, .f32⟩
  | 13 => ⟨S1x1x1024x3584, .f32⟩
  | 14 => ⟨S1024x3584, .f32⟩
  | 15 => ⟨S16384x3584, .f32⟩
  | 16 => ⟨S16384x3584, .f32⟩
  | 17 => ⟨S16384x3584, .f32⟩
  | 18 => ⟨S_, .f32⟩
  | 19 => ⟨S16384x3584, .f32⟩
  | 20 => ⟨S16384x3584, .f32⟩
  | 21 => ⟨S_, .f32⟩
  | 22 => ⟨S16384x3584, .f32⟩
  | 23 => ⟨S16384x3584, .f32⟩
  | 24 => ⟨S16384x3584, .f32⟩
  | 25 => ⟨S1x1x1024x3584, .f32⟩
  | 26 => ⟨S1024x3584, .f32⟩
  | 27 => ⟨S16384x3584, .f32⟩
  | 28 => ⟨S16384x3584, .f32⟩
  | 29 => ⟨S16384x1, .f32⟩
  | 30 => ⟨S1x1x3584x1024, .f32⟩
  | 31 => ⟨S3584x1024, .f32⟩
  | 32 => ⟨S16384x1024, .f32⟩
  | 33 => ⟨S16384x1024, .f32⟩
  | 34 => ⟨S16384x1024, .f32⟩
  | 35 => ⟨S16384x1024, .f32⟩
  | 36 => ⟨S1x1x1024x3584, .f32⟩
  | 37 => ⟨S1024x3584, .f32⟩
  | 38 => ⟨S16384x3584, .f32⟩
  | 39 => ⟨S16384x3584, .f32⟩
  | 40 => ⟨S16384x3584, .f32⟩
  | 41 => ⟨S_, .f32⟩
  | 42 => ⟨S16384x3584, .f32⟩
  | 43 => ⟨S16384x3584, .f32⟩
  | 44 => ⟨S_, .f32⟩
  | 45 => ⟨S16384x3584, .f32⟩
  | 46 => ⟨S16384x3584, .f32⟩
  | 47 => ⟨S16384x3584, .f32⟩
  | 48 => ⟨S1x1x1024x3584, .f32⟩
  | 49 => ⟨S1024x3584, .f32⟩
  | 50 => ⟨S16384x3584, .f32⟩
  | 51 => ⟨S16384x3584, .f32⟩
  | 52 => ⟨S16384x1, .f32⟩
  | 53 => ⟨S1x1x3584x1024, .f32⟩
  | 54 => ⟨S3584x1024, .f32⟩
  | 55 => ⟨S16384x1024, .f32⟩
  | 56 => ⟨S16384x1024, .f32⟩
  | 57 => ⟨S16384x1024, .f32⟩
  | 58 => ⟨S16384x1024, .f32⟩
  | 59 => ⟨S1x1x1024x3584, .f32⟩
  | 60 => ⟨S1024x3584, .f32⟩
  | 61 => ⟨S16384x3584, .f32⟩
  | 62 => ⟨S16384x3584, .f32⟩
  | 63 => ⟨S16384x3584, .f32⟩
  | 64 => ⟨S_, .f32⟩
  | 65 => ⟨S16384x3584, .f32⟩
  | 66 => ⟨S16384x3584, .f32⟩
  | 67 => ⟨S_, .f32⟩
  | 68 => ⟨S16384x3584, .f32⟩
  | 69 => ⟨S16384x3584, .f32⟩
  | 70 => ⟨S16384x3584, .f32⟩
  | 71 => ⟨S1x1x1024x3584, .f32⟩
  | 72 => ⟨S1024x3584, .f32⟩
  | 73 => ⟨S16384x3584, .f32⟩
  | 74 => ⟨S16384x3584, .f32⟩
  | 75 => ⟨S16384x1, .f32⟩
  | 76 => ⟨S1x1x3584x1024, .f32⟩
  | 77 => ⟨S3584x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_call4_v5 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_call5_v5 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_call6_v0 : Ref sig .tc := ⟨.hbm, 167, rfl⟩
abbrev main_call6_v1 : Ref sig .tc := ⟨.hbm, 168, rfl⟩
abbrev main_call6_cst : Ref sig .tc := ⟨.hbm, 169, rfl⟩
abbrev main_call6_v2 : Ref sig .tc := ⟨.hbm, 170, rfl⟩
abbrev main_call6_v3 : Ref sig .tc := ⟨.hbm, 171, rfl⟩
abbrev main_call6_cst_0 : Ref sig .tc := ⟨.hbm, 172, rfl⟩
abbrev main_call6_v4 : Ref sig .tc := ⟨.hbm, 173, rfl⟩
abbrev main_call6_v5 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_call7_v0 : Ref sig .tc := ⟨.hbm, 190, rfl⟩
abbrev main_call7_v1 : Ref sig .tc := ⟨.hbm, 191, rfl⟩
abbrev main_call7_cst : Ref sig .tc := ⟨.hbm, 192, rfl⟩
abbrev main_call7_v2 : Ref sig .tc := ⟨.hbm, 193, rfl⟩
abbrev main_call7_v3 : Ref sig .tc := ⟨.hbm, 194, rfl⟩
abbrev main_call7_cst_0 : Ref sig .tc := ⟨.hbm, 195, rfl⟩
abbrev main_call7_v4 : Ref sig .tc := ⟨.hbm, 196, rfl⟩
abbrev main_call7_v5 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S2x1024x1024 : Shape := ⟨3, ![2, 1024, 1024]⟩
abbrev S2x8x256x4x256 : Shape := ⟨5, ![2, 8, 256, 4, 256]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x8x256x4x256 : Shape := ⟨5, ![1, 8, 256, 4, 256]⟩
abbrev S8x256x4x256 : Shape := ⟨4, ![8, 256, 4, 256]⟩
abbrev S8x256x1024 : Shape := ⟨3, ![8, 256, 1024]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S256x256 : Shape := ⟨2, ![256, 256]⟩

abbrev nBuf : Space → Nat
  | .hbm => 22
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x1024, .f32⟩
  | .hbm, ⟨3, _⟩ => ⟨S2x1024x1024, .f32⟩
  | .hbm, ⟨4, _⟩ => ⟨S2x8x256x4x256, .f32⟩
  | .hbm, ⟨5, _⟩ => ⟨S2x8x256x4x256, .f32⟩
  | .hbm, ⟨6, _⟩ => ⟨S1x1024, .f32⟩
  | .hbm, ⟨7, _⟩ => ⟨S1024, .f32⟩
  | .hbm, ⟨8, _⟩ => ⟨S2x1024x1024, .bf16⟩
  | .hbm, ⟨9, _⟩ => ⟨S1x1024x1024, .bf16⟩
  | .hbm, ⟨10, _⟩ => ⟨S1024x1024, .bf16⟩
  | .hbm, ⟨11, _⟩ => ⟨S2x1024x1024, .bf16⟩
  | .hbm, ⟨12, _⟩ => ⟨S1x1024x1024, .bf16⟩
  | .hbm, ⟨13, _⟩ => ⟨S1024x1024, .bf16⟩
  | .hbm, ⟨14, _⟩ => ⟨S1x8x256x4x256, .f32⟩
  | .hbm, ⟨15, _⟩ => ⟨S8x256x4x256, .f32⟩
  | .hbm, ⟨16, _⟩ => ⟨S8x256x1024, .f32⟩
  | .hbm, ⟨17, _⟩ => ⟨S1x8x256x4x256, .f32⟩
  | .hbm, ⟨18, _⟩ => ⟨S8x256x4x256, .f32⟩
  | .hbm, ⟨19, _⟩ => ⟨S8x256x1024, .f32⟩
  | .hbm, ⟨20, _⟩ => ⟨S1x1024, .f32⟩
  | .hbm, ⟨21, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x512x1024, .f32⟩
  | .local _ .vmem, ⟨10, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x2048x1024 : Shape := ⟨3, ![8, 2048, 1024]⟩
abbrev S2x1024 : Shape := ⟨2, ![2, 1024]⟩
abbrev S2x1024x1024 : Shape := ⟨3, ![2, 1024, 1024]⟩
abbrev S2x8x256x4x256 : Shape := ⟨5, ![2, 8, 256, 4, 256]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x2048x4x256 : Shape := ⟨4, ![8, 2048, 4, 256]⟩
abbrev S1x8x256x4x256 : Shape := ⟨5, ![1, 8, 256, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x1024, .f32⟩
  | .hbm, ⟨3, _⟩ => ⟨S2x1024x1024, .f32⟩
  | .hbm, ⟨4, _⟩ => ⟨S2x8x256x4x256, .f32⟩
  | .hbm, ⟨5, _⟩ => ⟨S2x8x256x4x256, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x1024x1024, .f32⟩
  | .hbm, ⟨25, _⟩ => ⟨S1024x1024, .f32⟩
  | .hbm, ⟨26, _⟩ => ⟨S8x2048x1024, .f32⟩
  | .hbm, ⟨27, _⟩ => ⟨S8x2048x4x256, .f32⟩
  | .hbm, ⟨28, _⟩ => ⟨S1x8x256x4x256, .f32⟩
  | .hbm, ⟨29, _⟩ => ⟨S8x256x4x256, .f32⟩
  | .hbm, ⟨30, _⟩ => ⟨S8x4x2048x256, .f32⟩
  | .hbm, ⟨31, _⟩ => ⟨S_, .f32⟩
  | .hbm, ⟨32, _⟩ => ⟨S8x4x2048x256, .f32⟩
  | .hbm, ⟨33, _⟩ => ⟨S8x4x2048x256, .f32⟩
  | .hbm, ⟨34, _⟩ => ⟨S_, .f32⟩
  | .hbm, ⟨35, _⟩ => ⟨S8x4x2048, .f32⟩
  | .hbm, ⟨36, _⟩ => ⟨S_, .f32⟩
  | .hbm, ⟨37, _⟩ => ⟨S8x4x2048, .f32⟩
  | .hbm, ⟨38, _⟩ => ⟨S8x4x2048, .f32⟩
  | .hbm, ⟨39, _⟩ => ⟨S8x4x2048x1, .f32⟩
  | .hbm, ⟨40, _⟩ => ⟨S8x4x2048x256, .f32⟩
  | .hbm, ⟨41, _⟩ => ⟨S8x4x2048x256, .f32⟩
  | .hbm, ⟨42, _⟩ => ⟨S8x4x2048x256, .f32⟩
  | .hbm, ⟨43, _⟩ => ⟨S_, .f32⟩
  | .hbm, ⟨44, _⟩ => ⟨S8x4x2048, .f32⟩
  | .hbm, ⟨45, _⟩ => ⟨S8x4x2048x1, .f32⟩
  | .hbm, ⟨46, _⟩ => ⟨S8x4x2048x256, .f32⟩
  | .hbm, ⟨47, _⟩ => ⟨S8x4x2048x256, .f32⟩
  | .hbm, ⟨48, _⟩ => ⟨S1x8x256x4x256, .f32⟩
  | .hbm, ⟨49, _⟩ => ⟨S8x256x4x256, .f32⟩
  | .hbm, ⟨50, _⟩ => ⟨S8x4x256x2048, .f32⟩
  | .hbm, ⟨51, _⟩ => ⟨S8x2048x4x256, .f32⟩
  | .hbm, ⟨52, _⟩ => ⟨S8x2048x1024, .f32⟩
  | .hbm, ⟨53, _⟩ => ⟨S1x1024x1024, .f32⟩
  | .hbm, ⟨54, _⟩ => ⟨S1024x1024, .f32⟩
  | .hbm, ⟨55, _⟩ => ⟨S8x2048x1024, .f32⟩
  | .hbm, ⟨56, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel3.lean ====
abbrev S16384x1024 : Shape := ⟨2, ![16384, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024x2816, .bf16⟩
  | .hbm, ⟨8, _⟩ => ⟨S1024x2816, .bf16⟩
  | .hbm, ⟨9, _⟩ => ⟨S1x1024x2816, .bf16⟩
  | .hbm, ⟨10, _⟩ => ⟨S1024x2816, .bf16⟩
  | .hbm, ⟨11, _⟩ => ⟨S1x2816x1024, .bf16⟩
  | .hbm, ⟨12, _⟩ => ⟨S2816x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1024x2816, .f32⟩
  | .hbm, ⟨35, _⟩ => ⟨S16384x2816, .f32⟩
  | .hbm, ⟨36, _⟩ => ⟨S16384x2816, .f32⟩
  | .hbm, ⟨37, _⟩ => ⟨S2816x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel4.lean ====
abbrev S8x256x1024 : Shape := ⟨3, ![8, 256, 1024]⟩
abbrev S2x1024 : Shape := ⟨2, ![2, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩
abbrev S1024x2048 : Shape := ⟨2, ![1024, 2048]⟩
abbrev S1x1024 : Shape := ⟨2, ![1, 1024]⟩
abbrev S1024 : Shape := ⟨1, ![1024]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x8x256x1024 : Shape := ⟨4, ![1, 8, 256, 1024]⟩
abbrev S2x8x256x1024 : Shape := ⟨4, ![2, 8, 256, 1024]⟩
abbrev S2x8x256x4x256 : Shape := ⟨5, ![2, 8, 256, 4, 256]⟩

abbrev nBuf : Space → Nat
  | .hbm => 43
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x1024, .f32⟩
  | .hbm, ⟨3, _⟩ => ⟨S2x1024x1024, .f32⟩
  | .hbm, ⟨4, _⟩ => ⟨S2048x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1024x2048, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x2048, .f32⟩
  | .hbm, ⟨16, _⟩ => ⟨S2048x1024, .f32⟩
  | .hbm, ⟨17, _⟩ => ⟨S8x256x1024, .f32⟩
  | .hbm, ⟨18, _⟩ => ⟨S2048x1024, .f32⟩
  | .hbm, ⟨19, _⟩ => ⟨S8x256x1024, .f32⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S1x1024x1024, .f32⟩
  | .hbm, ⟨24, _⟩ => ⟨S1024x1024, .f32⟩
  | .hbm, ⟨25, _⟩ => ⟨S1024x1024, .bf16⟩
  | .hbm, ⟨26, _⟩ => ⟨S1024x2048, .bf16⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S2048x2048, .f32⟩
  | .hbm, ⟨31, _⟩ => ⟨S2048x1024, .f32⟩
  | .hbm, ⟨32, _⟩ => ⟨S8x256x1024, .f32⟩
  | .hbm, ⟨33, _⟩ => ⟨S2048x1024, .f32⟩
  | .hbm, ⟨34, _⟩ => ⟨S8x256x1024, .f32⟩
  | .hbm, ⟨35, _⟩ => ⟨S1x8x256x1024, .f32⟩
  | .hbm, ⟨36, _⟩ => ⟨S1x8x256x1024, .f32⟩
  | .hbm, ⟨37, _⟩ => ⟨S2x8x256x1024, .f32⟩
  | .hbm, ⟨38, _⟩ => ⟨S2x8x256x4x256, .f32⟩
  | .hbm, ⟨39, _⟩ => ⟨S1x8x256x1024, .f32⟩
  | .hbm, ⟨40, _⟩ => ⟨S1x8x256x1024, .f32⟩
  | .hbm, ⟨41, _⟩ => ⟨S2x8x256x1024, .f32⟩
  | .hbm, ⟨42, _⟩ => ⟨S2x8x256x4x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference4Ideal.lean ====
abbrev S8x256x1024 : Shape := ⟨3, ![8, 256, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x256x4x256 : Shape := ⟨4, ![8, 256, 4, 256]⟩
abbrev S1x8x256x4x256 : Shape := ⟨5, ![1, 8, 256, 4, 256]⟩
abbrev S2x8x256x4x256 : Shape := ⟨5, ![2, 8, 256, 4, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x1024, .f32⟩
  | .hbm, ⟨3, _⟩ => ⟨S2x1024x1024, .f32⟩
  | .hbm, ⟨4, _⟩ => ⟨S1x1024, .f32⟩
  | .hbm, ⟨5, _⟩ => ⟨S1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1x1024x1024, .f32⟩
  | .hbm, ⟨23, _⟩ => ⟨S1024x1024, .f32⟩
  | .hbm, ⟨24, _⟩ => ⟨S8x256x1024, .f32⟩
  | .hbm, ⟨25, _⟩ => ⟨S8x256x4x256, .f32⟩
  | .hbm, ⟨26, _⟩ => ⟨S1x1024x1024, .f32⟩
  | .hbm, ⟨27, _⟩ => ⟨S1024x1024, .f32⟩
  | .hbm, ⟨28, _⟩ => ⟨S8x256x1024, .f32⟩
  | .hbm, ⟨29, _⟩ => ⟨S8x256x4x256, .f32⟩
  | .hbm, ⟨30, _⟩ => ⟨S1x1024, .f32⟩
  | .hbm, ⟨31, _⟩ => ⟨S1024, .f32⟩
  | .hbm, ⟨32, _⟩ => ⟨S8x256x1024, .f32⟩
  | .hbm, ⟨33, _⟩ => ⟨S_, .f32⟩
  | .hbm, ⟨34, _⟩ => ⟨S8x256, .f32⟩
  | .hbm, ⟨35, _⟩ => ⟨S8x256x1, .f32⟩
  | .hbm, ⟨36, _⟩ => ⟨S_, .f32⟩
  | .hbm, ⟨37, _⟩ => ⟨S8x256x1, .f32⟩
  | .hbm, ⟨38, _⟩ => ⟨S8x256x1, .f32⟩
  | .hbm, ⟨39, _⟩ => ⟨S_, .f32⟩
  | .hbm, ⟨40, _⟩ => ⟨S8x256x1, .f32⟩
  | .hbm, ⟨41, _⟩ => ⟨S8x256x1, .f32⟩
  | .hbm, ⟨42, _⟩ => ⟨S8x256x1, .f32⟩
  | .hbm, ⟨43, _⟩ => ⟨S8x256x1024, .f32⟩
  | .hbm, ⟨44, _⟩ => ⟨S8x256x1024, .f32⟩
  | .hbm, ⟨45, _⟩ => ⟨S1x1x1024, .f32⟩
  | .hbm, ⟨46, _⟩ => ⟨S8x256x1024, .f32⟩
  | .hbm, ⟨47, _⟩ => ⟨S8x256x1024, .f32⟩
  | .hbm, ⟨48, _⟩ => ⟨S1x1024x1024, .f32⟩
  | .hbm, ⟨49, _⟩ => ⟨S1024x1024, .f32⟩
  | .hbm, ⟨50, _⟩ => ⟨S8x256x1024, .f32⟩
  | .hbm, ⟨51, _⟩ => ⟨S8x256x4x256, .f32⟩
  | .hbm, ⟨52, _⟩ => ⟨S1x1024x1024, .f32⟩
  | .hbm, ⟨53, _⟩ => ⟨S1024x1024, .f32⟩
  | .hbm, ⟨54, _⟩ => ⟨S8x256x1024, .f32⟩
  | .hbm, ⟨55, _⟩ => ⟨S8x256x4x256, .f32⟩
  | .hbm, ⟨56, _⟩ => ⟨S1x8x256x4x256, .f32⟩
  | .hbm, ⟨57, _⟩ => ⟨S1x8x256x4x256, .f32⟩
  | .hbm, ⟨58, _⟩ => ⟨S2x8x256x4x256, .f32⟩
  | .hbm, ⟨59, _⟩ => ⟨S1x8x256x4x256, .f32⟩
  | .hbm, ⟨60, _⟩ => ⟨S1x8x256x4x256, .f32⟩
  | .hbm, ⟨61, _⟩ => ⟨S2x8x256x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel5.lean ====
abbrev S8x2048x1024 : Shape := ⟨3, ![8, 2048, 1024]⟩
abbrev S2x1024 : Shape := ⟨2, ![2, 1024]⟩
abbrev S1x1024x2304 : Shape := ⟨3, ![1, 1024, 2304]⟩
abbrev S16384x1024 : Shape := ⟨2, ![16384, 1024]⟩
abbrev S1x1024 : Shape := ⟨2, ![1, 1024]⟩
abbrev S1024 : Shape := ⟨1, ![1024]⟩
abbrev S1024x2304 : Shape := ⟨2, ![1024, 2304]⟩
abbrev S16384x2304 : Shape := ⟨2, ![16384, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S8x2048x2304 : Shape := ⟨3, ![8, 2048, 2304]⟩
abbrev S8x15x512 : Shape := ⟨3, ![8, 15, 512]⟩
abbrev S8x1x1792 : Shape := ⟨3, ![8, 1, 1792]⟩
abbrev S8x1792 : Shape := ⟨2, ![8, 1792]⟩
abbrev S1x8x15x512 : Shape := ⟨4, ![1, 8, 15, 512]⟩
abbrev S1x8x1792 : Shape := ⟨3, ![1, 8, 1792]⟩

abbrev nBuf : Space → Nat
  | .hbm => 16
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2304, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024x2304, .bf16⟩
  | .hbm, ⟨7, _⟩ => ⟨S1024x2304, .bf16⟩
  | .hbm, ⟨8, _⟩ => ⟨S1x1024, .f32⟩
  | .hbm, ⟨9, _⟩ => ⟨S16384x2304, .f32⟩
  | .hbm, ⟨10, _⟩ => ⟨S8x2048x2304, .f32⟩
  | .hbm, ⟨11, _⟩ => ⟨S8x15x512, .f32⟩
  | .hbm, ⟨12, _⟩ => ⟨S8x1x1792, .f32⟩
  | .hbm, ⟨13, _⟩ => ⟨S8x1792, .f32⟩
  | .hbm, ⟨14, _⟩ => ⟨S1x8x15x512, .f32⟩
  | .hbm, ⟨15, _⟩ => ⟨S1x8x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x2304, .f32⟩
  | .local _ .vmem, ⟨5, _⟩ => ⟨S512x2304, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x2048x1024 : Shape := ⟨3, ![8, 2048, 1024]⟩
abbrev S2x1024 : Shape := ⟨2, ![2, 1024]⟩
abbrev S1x1024x2304 : Shape := ⟨3, ![1, 1024, 2304]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2304 : Shape := ⟨2, ![1024, 2304]⟩
abbrev S8x2048x2304 : Shape := ⟨3, ![8, 2048, 2304]⟩
abbrev S8x15x512 : Shape := ⟨3, ![8, 15, 512]⟩
abbrev S8x2048x512 : Shape := ⟨3, ![8, 2048, 512]⟩
abbrev S8x2063x512 : Shape := ⟨3, ![8, 2063, 512]⟩
abbrev S8x2048x1792 : Shape := ⟨3, ![8, 2048, 1792]⟩
abbrev S8x1x1792 : Shape := ⟨3, ![8, 1, 1792]⟩
abbrev S8x1792 : Shape := ⟨2, ![8, 1792]⟩
abbrev S1x8x15x512 : Shape := ⟨4, ![1, 8, 15, 512]⟩
abbrev S1x8x1792 : Shape := ⟨3, ![1, 8, 1792]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2304, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x2304, .f32⟩
  | .hbm, ⟨22, _⟩ => ⟨S8x2048x2304, .f32⟩
  | .hbm, ⟨23, _⟩ => ⟨S_, .f32⟩
  | .hbm, ⟨24, _⟩ => ⟨S8x15x512, .f32⟩
  | .hbm, ⟨25, _⟩ => ⟨S8x2048x512, .f32⟩
  | .hbm, ⟨26, _⟩ => ⟨S8x2063x512, .f32⟩
  | .hbm, ⟨27, _⟩ => ⟨S8x15x512, .f32⟩
  | .hbm, ⟨28, _⟩ => ⟨S8x2048x1792, .f32⟩
  | .hbm, ⟨29, _⟩ => ⟨S8x1x1792, .f32⟩
  | .hbm, ⟨30, _⟩ => ⟨S8x1792, .f32⟩
  | .hbm, ⟨31, _⟩ => ⟨S1x8x15x512, .f32⟩
  | .hbm, ⟨32, _⟩ => ⟨S1x8x1792, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel6.lean ====
abbrev S128x1x1024 : Shape := ⟨3, ![128, 1, 1024]⟩
abbrev S2x1024 : Shape := ⟨2, ![2, 1024]⟩
abbrev S1x1024x2304 : Shape := ⟨3, ![1, 1024, 2304]⟩
abbrev S1x128x15x512 : Shape := ⟨4, ![1, 128, 15, 512]⟩
abbrev S128x1024 : Shape := ⟨2, ![128, 1024]⟩
abbrev S1x1024 : Shape := ⟨2, ![1, 1024]⟩
abbrev S1024 : Shape := ⟨1, ![1024]⟩
abbrev S1024x2304 : Shape := ⟨2, ![1024, 2304]⟩
abbrev S128x2304 : Shape := ⟨2, ![128, 2304]⟩
abbrev S128 : Shape := ⟨1, ![128]⟩
abbrev S128x1 : Shape := ⟨2, ![128, 1]⟩
abbrev S128x15x512 : Shape := ⟨3, ![128, 15, 512]⟩
abbrev S128x14x512 : Shape := ⟨3, ![128, 14, 512]⟩
abbrev S128x512 : Shape := ⟨2, ![128, 512]⟩
abbrev S128x1x512 : Shape := ⟨3, ![128, 1, 512]⟩
abbrev S128x1792 : Shape := ⟨2, ![128, 1792]⟩
abbrev S1x128x1792 : Shape := ⟨3, ![1, 128, 1792]⟩

abbrev nBuf : Space → Nat
  | .hbm => 19
  | .vmem => 4
  | .smem => 0
  | _ => 0

abbrev bufTy : (tb : Table) → Fin (tcTables nBuf tb) → BufTy
  | .hbm, ⟨0, _⟩ => ⟨S128x1x1024, .f32⟩
  | .hbm, ⟨1, _⟩ => ⟨S2x1024, .f32⟩
  | .hbm, ⟨2, _⟩ => ⟨S1x1024x2304, .f32⟩
  | .hbm, ⟨3, _⟩ => ⟨S1x128x15x512, .f32⟩
  | .hbm, ⟨4, _⟩ => ⟨S128x1024, .f32⟩
  | .hbm, ⟨5, _⟩ => ⟨S1x1024, .f32⟩
  | .hbm, ⟨6, _⟩ => ⟨S1024, .f32⟩
  | .hbm, ⟨7, _⟩ => ⟨S1x1024x2304, .bf16⟩
  | .hbm, ⟨8, _⟩ => ⟨S1024x2304, .bf16⟩
  | .hbm, ⟨9, _⟩ => ⟨S1x1024, .f32⟩
  | .hbm, ⟨10, _⟩ => ⟨S128x2304, .f32⟩
  | .hbm, ⟨11, _⟩ => ⟨S128x15x512, .f32⟩
  | .hbm, ⟨12, _⟩ => ⟨S128x14x512, .f32⟩
  | .hbm, ⟨13, _⟩ => ⟨S128x512, .f32⟩
  | .hbm, ⟨14, _⟩ => ⟨S128x1x512, .f32⟩
  | .hbm, ⟨15, _⟩ => ⟨S128x15x512, .f32⟩
  | .hbm, ⟨16, _⟩ => ⟨S128x1792, .f32⟩
  | .hbm, ⟨17, _⟩ => ⟨S1x128x15x512, .f32⟩
  | .hbm, ⟨18, _⟩ => ⟨S1x128x1792, .f32⟩
  | .local _ .vmem, ⟨0, _⟩ => ⟨S128x1024, .f32⟩
  | .local _ .vmem, ⟨1, _⟩ => ⟨S1x1024, .f32⟩
  | .local _ .vmem, ⟨2, _⟩ => ⟨S1024x2304, .bf16⟩
  | .local _ .vmem, ⟨3, _⟩ => ⟨S128x2304, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference6Ideal.lean ====
abbrev S128x1x1024 : Shape := ⟨3, ![128, 1, 1024]⟩
abbrev S2x1024 : Shape := ⟨2, ![2, 1024]⟩
abbrev S1x1024x2304 : Shape := ⟨3, ![1, 1024, 2304]⟩
abbrev S1x128x15x512 : Shape := ⟨4, ![1, 128, 15, 512]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2304 : Shape := ⟨2, ![1024, 2304]⟩
abbrev S128x1x2304 : Shape := ⟨3, ![128, 1, 2304]⟩
abbrev S128x15x512 : Shape := ⟨3, ![128, 15, 512]⟩
abbrev S128x1x512 : Shape := ⟨3, ![128, 1, 512]⟩
abbrev S128x16x512 : Shape := ⟨3, ![128, 16, 512]⟩
abbrev S128x1x1792 : Shape := ⟨3, ![128, 1, 1792]⟩
abbrev S128x1792 : Shape := ⟨2, ![128, 1792]⟩
abbrev S128x2304 : Shape := ⟨2, ![128, 2304]⟩
abbrev S1x128x1792 : Shape := ⟨3, ![1, 128, 1792]⟩

abbrev nBuf : Space → Nat
  | .hbm => 33
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S2x1024, .f32⟩
  | .hbm, ⟨2, _⟩ => ⟨S1x1024x2304, .f32⟩
  | .hbm, ⟨3, _⟩ => ⟨S1x128x15x512, .f32⟩
  | .hbm, ⟨4, _⟩ => ⟨S1x1024, .f32⟩
  | .hbm, ⟨5, _⟩ => ⟨S1024, .f32⟩
  | .hbm, ⟨6, _⟩ => ⟨S128x1x1024, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x1024, .f32⟩
  | .hbm, ⟨18, _⟩ => ⟨S128x1x1024, .f32⟩
  | .hbm, ⟨19, _⟩ => ⟨S1x1x1024, .f32⟩
  | .hbm, ⟨20, _⟩ => ⟨S128x1x1024, .f32⟩
  | .hbm, ⟨21, _⟩ => ⟨S128x1x1024, .f32⟩
  | .hbm, ⟨22, _⟩ => ⟨S1024x2304, .f32⟩
  | .hbm, ⟨23, _⟩ => ⟨S128x1x2304, .f32⟩
  | .hbm, ⟨24, _⟩ => ⟨S128x15x512, .f32⟩
  | .hbm, ⟨25, _⟩ => ⟨S128x1x512, .f32⟩
  | .hbm, ⟨26, _⟩ => ⟨S128x16x512, .f32⟩
  | .hbm, ⟨27, _⟩ => ⟨S128x15x512, .f32⟩
  | .hbm, ⟨28, _⟩ => ⟨S128x1x1792, .f32⟩
  | .hbm, ⟨29, _⟩ => ⟨S128x1792, .f32⟩
  | .hbm, ⟨30, _⟩ => ⟨S128x2304, .f32⟩
  | .hbm, ⟨31, _⟩ => ⟨S1x128x15x512, .f32⟩
  | .hbm, ⟨32, _⟩ => ⟨S1x128x1792, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel7.lean ====
abbrev S16384x1024 : Shape := ⟨2, ![16384, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1x1024x3072, .bf16⟩
  | .hbm, ⟨6, _⟩ => ⟨S1024x3072, .bf16⟩
  | .hbm, ⟨7, _⟩ => ⟨S1x1024, .f32⟩
  | .hbm, ⟨8, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x1024 : Shape := ⟨2, ![16384, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3072, .f32⟩
  | .hbm, ⟨22, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S16384x1024 : Shape := ⟨2, ![16384, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024x1024, .f32⟩
  | .hbm, ⟨3, _⟩ => ⟨S1x1024x1024, .bf16⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024x1024, .f32⟩
  | .hbm, ⟨3, _⟩ => ⟨S1024x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8x2048x3072 : Shape := ⟨3, ![8, 2048, 3072]⟩
abbrev S8x2048x1024 : Shape := ⟨3, ![8, 2048, 1024]⟩
abbrev S1x3x1024 : Shape := ⟨3, ![1, 3, 1024]⟩
abbrev S1x1024x1024 : Shape := ⟨3, ![1, 1024, 1024]⟩
abbrev S3x1024 : Shape := ⟨2, ![3, 1024]⟩
abbrev S1024x1024 : Shape := ⟨2, ![1024, 1024]⟩
abbrev S8x2x1024 : Shape := ⟨3, ![8, 2, 1024]⟩
abbrev S1x512x3072 : Shape := ⟨3, ![1, 512, 3072]⟩
abbrev S1x512x1024 : Shape := ⟨3, ![1, 512, 1024]⟩
abbrev S1x2x1024 : Shape := ⟨3, ![1, 2, 1024]⟩
abbrev S520x1024 : Shape := ⟨2, ![520, 1024]⟩
abbrev S8x1024 : Shape := ⟨2, ![8, 1024]⟩
abbrev S512x1024 : Shape := ⟨2, ![512, 1024]⟩
abbrev S1x1024 : Shape := ⟨2, ![1, 1024]⟩
abbrev S2x1024 : Shape := ⟨2, ![2, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x3072, .f32⟩
  | .hbm, ⟨1, _⟩ => ⟨S8x2048x1024, .f32⟩
  | .hbm, ⟨2, _⟩ => ⟨S1x3x1024, .f32⟩
  | .hbm, ⟨3, _⟩ => ⟨S1x1024x1024, .f32⟩
  | .hbm, ⟨4, _⟩ => ⟨S3x1024, .f32⟩
  | .hbm, ⟨5, _⟩ => ⟨S1x1024x1024, .bf16⟩
  | .hbm, ⟨6, _⟩ => ⟨S1024x1024, .bf16⟩
  | .hbm, ⟨7, _⟩ => ⟨S8x2048x1024, .f32⟩
  | .hbm, ⟨8, _⟩ => ⟨S8x2x1024, .f32⟩
  | .local _ .vmem, ⟨0, _⟩ => ⟨S1x512x3072, .f32⟩
  | .local _ .vmem, ⟨1, _⟩ => ⟨S1x512x3072, .f32⟩
  | .local _ .vmem, ⟨2, _⟩ => ⟨S1x512x1024, .f32⟩
  | .local _ .vmem, ⟨3, _⟩ => ⟨S1x512x1024, .f32⟩
  | .local _ .vmem, ⟨4, _⟩ => ⟨S3x1024, .f32⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x2x1024, .f32⟩
  | .local _ .vmem, ⟨9, _⟩ => ⟨S1x2x1024, .f32⟩
  | .local _ .vmem, ⟨10, _⟩ => ⟨S520x1024, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_27 : BitVec 32 := 0#32
  let v47 : BitVec 1 := Scalar.cmpi .ne v46 c0_i32_27
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S8x2048x3072 : Shape := ⟨3, ![8, 2048, 3072]⟩
abbrev S8x2048x1024 : Shape := ⟨3, ![8, 2048, 1024]⟩
abbrev S1x3x1024 : Shape := ⟨3, ![1, 3, 1024]⟩
abbrev S1x1024x1024 : Shape := ⟨3, ![1, 1024, 1024]⟩
abbrev S_ : Shape := ⟨0, ![]⟩
abbrev S8x2x1024 : Shape := ⟨3, ![8, 2, 1024]⟩
abbrev S8x2050x1024 : Shape := ⟨3, ![8, 2050, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S8x2048x1024, .f32⟩
  | .hbm, ⟨2, _⟩ => ⟨S1x3x1024, .f32⟩
  | .hbm, ⟨3, _⟩ => ⟨S1x1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2x1024, .f32⟩
  | .hbm, ⟨9, _⟩ => ⟨S8x2048x1024, .f32⟩
  | .hbm, ⟨10, _⟩ => ⟨S8x2050x1024, .f32⟩
  | .hbm, ⟨11, _⟩ => ⟨S3x1024, .f32⟩
  | .hbm, ⟨12, _⟩ => ⟨S1x1024, .f32⟩
  | .hbm, ⟨13, _⟩ => ⟨S1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S1x1024, .f32⟩
  | .hbm, ⟨22, _⟩ => ⟨S1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1x1024, .f32⟩
  | .hbm, ⟨29, _⟩ => ⟨S1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1024x1024, .f32⟩
  | .hbm, ⟨37, _⟩ => ⟨S8x2048x1024, .f32⟩
  | .hbm, ⟨38, _⟩ => ⟨S8x2048x1024, .f32⟩
  | .hbm, ⟨39, _⟩ => ⟨S8x2x1024, .f32⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel10.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S128x1024 : Shape := ⟨2, ![128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1x1024, .f32⟩
  | .hbm, ⟨3, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference11Ideal.lean ====
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S128x1024, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x1024, .f32⟩
  | .hbm, ⟨14, _⟩ => ⟨S128x1024, .f32⟩
  | .hbm, ⟨15, _⟩ => ⟨S1x1024, .f32⟩
  | .hbm, ⟨16, _⟩ => ⟨S128x1024, .f32⟩
  | .hbm, ⟨17, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S128x3072 : Shape := ⟨2, ![128, 3072]⟩
abbrev S128x1024 : Shape := ⟨2, ![128, 1024]⟩
abbrev S1x128x2x1024 : Shape := ⟨4, ![1, 128, 2, 1024]⟩
abbrev S1x3x1024 : Shape := ⟨3, ![1, 3, 1024]⟩
abbrev S1x1024x1024 : Shape := ⟨3, ![1, 1024, 1024]⟩
abbrev S128x2x1024 : Shape := ⟨3, ![128, 2, 1024]⟩
abbrev S3x1024 : Shape := ⟨2, ![3, 1024]⟩
abbrev S1024x1024 : Shape := ⟨2, ![1024, 1024]⟩
abbrev S128x1x1024 : Shape := ⟨3, ![128, 1, 1024]⟩
abbrev S1x1024 : Shape := ⟨2, ![1, 1024]⟩

abbrev nBuf : Space → Nat
  | .hbm => 20
  | .vmem => 8
  | .smem => 0
  | _ => 0

abbrev bufTy : (tb : Table) → Fin (tcTables nBuf tb) → BufTy
  | .hbm, ⟨0, _⟩ => ⟨S128x3072, .f32⟩
  | .hbm, ⟨1, _⟩ => ⟨S128x1024, .f32⟩
  | .hbm, ⟨2, _⟩ => ⟨S1x128x2x1024, .f32⟩
  | .hbm, ⟨3, _⟩ => ⟨S1x3x1024, .f32⟩
  | .hbm, ⟨4, _⟩ => ⟨S1x1024x1024, .f32⟩
  | .hbm, ⟨5, _⟩ => ⟨S128x2x1024, .f32⟩
  | .hbm, ⟨6, _⟩ => ⟨S3x1024, .f32⟩
  | .hbm, ⟨7, _⟩ => ⟨S1x1024x1024, .bf16⟩
  | .hbm, ⟨8, _⟩ => ⟨S1024x1024, .bf16⟩
  | .hbm, ⟨9, _⟩ => ⟨S128x1x1024, .f32⟩
  | .hbm, ⟨10, _⟩ => ⟨S128x1024, .f32⟩
  | .hbm, ⟨11, _⟩ => ⟨S128x1x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x2x1024, .f32⟩
  | .hbm, ⟨16, _⟩ => ⟨S128x1x1024, .f32⟩
  | .hbm, ⟨17, _⟩ => ⟨S128x1x1024, .f32⟩
  | .hbm, ⟨18, _⟩ => ⟨S128x2x1024, .f32⟩
  | .hbm, ⟨19, _⟩ => ⟨S1x128x2x1024, .f32⟩
  | .local _ .vmem, ⟨0, _⟩ => ⟨S128x3072, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S3x1024, .f32⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S128x3072 : Shape := ⟨2, ![128, 3072]⟩
abbrev S128x1024 : Shape := ⟨2, ![128, 1024]⟩
abbrev S1x128x2x1024 : Shape := ⟨4, ![1, 128, 2, 1024]⟩
abbrev S1x3x1024 : Shape := ⟨3, ![1, 3, 1024]⟩
abbrev S1x1024x1024 : Shape := ⟨3, ![1, 1024, 1024]⟩
abbrev S128x1x3072 : Shape := ⟨3, ![128, 1, 3072]⟩
abbrev S128x1x1024 : Shape := ⟨3, ![128, 1, 1024]⟩
abbrev S128x2x1024 : Shape := ⟨3, ![128, 2, 1024]⟩
abbrev S128x3x1024 : Shape := ⟨3, ![128, 3, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S128x3072, .f32⟩
  | .hbm, ⟨1, _⟩ => ⟨S128x1024, .f32⟩
  | .hbm, ⟨2, _⟩ => ⟨S1x128x2x1024, .f32⟩
  | .hbm, ⟨3, _⟩ => ⟨S1x3x1024, .f32⟩
  | .hbm, ⟨4, _⟩ => ⟨S1x1024x1024, .f32⟩
  | .hbm, ⟨5, _⟩ => ⟨S128x1x3072, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x2x1024, .f32⟩
  | .hbm, ⟨10, _⟩ => ⟨S128x1x1024, .f32⟩
  | .hbm, ⟨11, _⟩ => ⟨S128x3x1024, .f32⟩
  | .hbm, ⟨12, _⟩ => ⟨S3x1024, .f32⟩
  | .hbm, ⟨13, _⟩ => ⟨S1x1024, .f32⟩
  | .hbm, ⟨14, _⟩ => ⟨S1024, .f32⟩
  | .hbm, ⟨15, _⟩ => ⟨S128x1x1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S_, .f32⟩
  | .hbm, ⟨20, _⟩ => ⟨S128x1x1024, .f32⟩
  | .hbm, ⟨21, _⟩ => ⟨S128x1x1024, .f32⟩
  | .hbm, ⟨22, _⟩ => ⟨S1x1024, .f32⟩
  | .hbm, ⟨23, _⟩ => ⟨S1024, .f32⟩
  | .hbm, ⟨24, _⟩ => ⟨S128x1x1024, .f32⟩
  | .hbm, ⟨25, _⟩ => ⟨S1x1x1024, .f32⟩
  | .hbm, ⟨26, _⟩ => ⟨S128x1x1024, .f32⟩
  | .hbm, ⟨27, _⟩ => ⟨S128x1x1024, .f32⟩
  | .hbm, ⟨28, _⟩ => ⟨S128x1x1024, .f32⟩
  | .hbm, ⟨29, _⟩ => ⟨S1x1024, .f32⟩
  | .hbm, ⟨30, _⟩ => ⟨S1024, .f32⟩
  | .hbm, ⟨31, _⟩ => ⟨S128x1x1024, .f32⟩
  | .hbm, ⟨32, _⟩ => ⟨S1x1x1024, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S1024x1024, .f32⟩
  | .hbm, ⟨38, _⟩ => ⟨S128x1x1024, .f32⟩
  | .hbm, ⟨39, _⟩ => ⟨S128x1024, .f32⟩
  | .hbm, ⟨40, _⟩ => ⟨S128x1024, .f32⟩
  | .hbm, ⟨41, _⟩ => ⟨S128x2x1024, .f32⟩
  | .hbm, ⟨42, _⟩ => ⟨S1x128x2x1024, .f32⟩
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel13.lean ====
abbrev S16384x1024 : Shape := ⟨2, ![16384, 1024]⟩
abbrev S2x1024 : Shape := ⟨2, ![2, 1024]⟩
abbrev S1x1024x8 : Shape := ⟨3, ![1, 1024, 8]⟩
abbrev S1x8 : Shape := ⟨2, ![1, 8]⟩
abbrev S1x1024 : Shape := ⟨2, ![1, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S16384x8 : Shape := ⟨2, ![16384, 8]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩
abbrev S512x128 : Shape := ⟨2, ![512, 128]⟩

abbrev nBuf : Space → Nat
  | .hbm => 23
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x8, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S1024x8, .f32⟩
  | .hbm, ⟨7, _⟩ => ⟨S8, .f32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x1024, .f32⟩
  | .hbm, ⟨22, _⟩ => ⟨S16384x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x8, .f32⟩
  | .local _ .vmem, ⟨6, _⟩ => ⟨S512x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S16384x1024 : Shape := ⟨2, ![16384, 1024]⟩
abbrev S2x1024 : Shape := ⟨2, ![2, 1024]⟩
abbrev S1x1024x8 : Shape := ⟨3, ![1, 1024, 8]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x8 : Shape := ⟨2, ![1024, 8]⟩
abbrev S16384x8 : Shape := ⟨2, ![16384, 8]⟩
abbrev S8 : Shape := ⟨1, ![8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x8, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x8, .f32⟩
  | .hbm, ⟨23, _⟩ => ⟨S16384x8, .f32⟩
  | .hbm, ⟨24, _⟩ => ⟨S8, .f32⟩
  | .hbm, ⟨25, _⟩ => ⟨S1x8, .f32⟩
  | .hbm, ⟨26, _⟩ => ⟨S16384x8, .f32⟩
  | .hbm, ⟨27, _⟩ => ⟨S16384x8, .f32⟩
  | .hbm, ⟨28, _⟩ => ⟨S16384x2, .f32⟩
  | .hbm, ⟨29, _⟩ => ⟨S16384x2, .i32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x2, .f32⟩
  | .hbm, ⟨37, _⟩ => ⟨S16384x2, .f32⟩
  | .hbm, ⟨38, _⟩ => ⟨S16384x2, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x2, .f32⟩
  | .hbm, ⟨43, _⟩ => ⟨S16384x2, .f32⟩
  | .hbm, ⟨44, _⟩ => ⟨S16384x2x1, .i32⟩
  | .hbm, ⟨45, _⟩ => ⟨S1x1x8, .i32⟩
  | .hbm, ⟨46, _⟩ => ⟨S16384x2x8, .i32⟩
  | .hbm, ⟨47, _⟩ => ⟨S16384x2x8, .i32⟩
  | .hbm, ⟨48, _⟩ => ⟨S16384x2x8, .i1⟩
  | .hbm, ⟨49, _⟩ => ⟨S16384x2x8, .f32⟩
  | .hbm, ⟨50, _⟩ => ⟨S16384x2x1, .f32⟩
  | .hbm, ⟨51, _⟩ => ⟨S16384x2x8, .f32⟩
  | .hbm, ⟨52, _⟩ => ⟨S16384x2x8, .f32⟩
  | .hbm, ⟨53, _⟩ => ⟨S_, .f32⟩
  | .hbm, ⟨54, _⟩ => ⟨S16384x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Proof.SwiSpec.lean ====
module
public import Idealize.ShloMosaic.Lib.Pointwise
set_option maxRecDepth 16384
@[expose] public section
noncomputable section
open Idealize.ShloMosaic

/-! The norm and the gated feed-forward of one row, over the extended reals: the common reading of the
    kernels' blocks and of the references' arrays. -/
namespace Cert.Swi

/-- The row normalised by its root mean square and scaled. -/
def nrm (x g : Fin 1024 → EReal) (l : Fin 1024) : EReal :=
  x l * Ideal.rsqrt (Ideal.div (∑ i, x i * x i) (Ideal.ofBits .f32 1149239296#32) + Ideal.ofBits .f32 897988541#32) * g l

/-- The gate times its logistic, times the other branch. -/
def act (a b : EReal) : EReal :=
  a * Ideal.div 1 (1 + Ideal.exp (-a)) * b

end Cert.Swi
end
end
-- ==== Proof.MoePay.lean ====
module
public import proofs.«01_k».proof.Proof.Gen.KernelIdeal.Skeleton
public import proofs.«01_k».proof.Proof.SwiSpec
set_option maxRecDepth 16384
@[expose] public section
noncomputable section
open Idealize.ShloMosaic Idealize.ShloMosaic.TcCoe Idealize.SL.Sem
namespace Cert.KernelIdeal.Moe
open Cert.KernelIdeal Cert.KernelIdeal.Gen Cert.Swi

theorem xn_at (x : FVec Ideal S512x1024 .f32) (g : FVec Ideal S1x1024 .f32) (r : Fin 512) (l : Fin 1024) :
    k0_pay4 (F := Ideal) x g (ix2 r l) = nrm (fun l => x (ix2 r l)) (fun l => g (ix2 0 l)) l := by
  pointwise [k0_pay4]
  rfl

theorem zero_acc (r : Fin 512) (j : Fin 1024) : k0_pay5 (F := Ideal) (ix2 r j) = 0 := by pointwise [k0_pay5]
theorem zero_part (r : Fin 512) (j : Fin 1024) : k0_pay6 (F := Ideal) (ix2 r j) = 0 := by pointwise [k0_pay6]

theorem part_at (xn : FVec Ideal S512x1024 .bf16) (wg wu : FVec Ideal S1x1024x512 .bf16) (p : FVec Ideal S512x1024 .f32) (wd : FVec Ideal S1x512x1024 .bf16) (r : Fin 512) (j : Fin 1024) :
    k0_pay1 (k0_pay7 (F := Ideal) xn wg wu p wd) (ix2 r j) = p (ix2 r j) + ∑ k : Fin 512, act (∑ l, xn (ix2 r l) * wg (ix3 0 l k)) (∑ l, xn (ix2 r l) * wu (ix3 0 l k)) * wd (ix3 0 k j) := by
  pointwise [k0_pay1, k0_pay7]
  simp only [act, zero_sub]

theorem out_at (x a : FVec Ideal S512x1024 .f32) (r : Fin 512) (j : Fin 1024) :
    k0_pay3 (F := Ideal) x a (ix2 r j) = x (ix2 r j) + a (ix2 r j) := by pointwise [k0_pay3]

/-- The gate of one expert, picked out of the row of gates by its lane. -/
theorem pick (e : Fin 8) (f : Fin 8 → EReal) :
    ∑ x : Fin 8, Scalar.select (IntOp.cmpi CmpIPredicate.eq (BitVec.ofNat 32 x.val) (BitVec.ofNat 32 e.val)) (f x) 0 = f e := by
  rw [Finset.sum_eq_single e]
  · simp [Scalar.select, IntOp.cmpi]
  · intro x _ hx
    have h : BitVec.ofNat 32 x.val ≠ BitVec.ofNat 32 e.val := by
      intro h
      have := congrArg BitVec.toNat h
      simp only [BitVec.toNat_ofNat] at this
      exact hx (Fin.ext (by omega))
    have hb := beq_eq_false_iff_ne.mpr h
    simp only [Scalar.select, IntOp.cmpi, hb]
    rfl
  · simp

theorem acc_at (e : Fin 8) (g : FVec Ideal S512x8 .f32) (a p : FVec Ideal S512x1024 .f32) (r : Fin 512) (j : Fin 1024) :
    k0_pay2 (F := Ideal) (BitVec.ofNat 32 e.val) g a p (ix2 r j) = a (ix2 r j) + g (ix2 r e) * p (ix2 r j) := by
  pointwise [k0_pay2]
  rw [pick e fun x => g (ix2 r x)]

end Cert.KernelIdeal.Moe
end
end
-- ==== Proof.MoeSpec.lean ====
module
public import proofs.«01_k».proof.Proof.SwiSpec
set_option maxRecDepth 16384
@[expose] public section
noncomputable section
open Idealize.ShloMosaic
namespace Cert.Moe
open Cert.Swi

/-- One unit of one expert's hidden layer for a normalised row. -/
def hid (xn : Fin 1024 → EReal) (wg wu : Fin 8 → Fin 1024 → Fin 3584 → EReal) (e : Fin 8) (q : Fin 3584) : EReal :=
  act (∑ l, xn l * wg e l q) (∑ l, xn l * wu e l q)

/-- One expert's output for a normalised row, at a column. -/
def down (xn : Fin 1024 → EReal) (wg wu : Fin 8 → Fin 1024 → Fin 3584 → EReal) (wd : Fin 8 → Fin 3584 → Fin 1024 → EReal) (j : Fin 1024) (e : Fin 8) : EReal :=
  ∑ q, hid xn wg wu e q * wd e q j

/-- The part of an expert's output that one tile of the hidden units gives. -/
def part (xn : Fin 1024 → EReal) (wg wu : Fin 8 → Fin 1024 → Fin 3584 → EReal) (wd : Fin 8 → Fin 3584 → Fin 1024 → EReal) (j : Fin 1024) (e : Fin 8) (f : ℕ) : EReal :=
  if h : f < 7 then ∑ k : Fin 512, hid xn wg wu e ⟨f * 512 + k.val, by omega⟩ * wd e ⟨f * 512 + k.val, by omega⟩ j else 0

theorem part_sum (xn : Fin 1024 → EReal) (wg wu : Fin 8 → Fin 1024 → Fin 3584 → EReal) (wd : Fin 8 → Fin 3584 → Fin 1024 → EReal) (j : Fin 1024) (e : Fin 8) :
    ∑ f ∈ Finset.range 7, part xn wg wu wd j e f = down xn wg wu wd j e := by
  rw [Finset.sum_range, down, Fin.sum_univ_tiles 7 512 rfl]
  refine Finset.sum_congr rfl fun f _ => ?_
  rw [part, dif_pos f.isLt]

/-- The gated experts' outputs added up, the first `n` of them. -/
def acc (gt D : Fin 8 → EReal) : ℕ → EReal
  | 0 => 0
  | n + 1 => acc gt D n + if h : n < 8 then gt ⟨n, h⟩ * D ⟨n, h⟩ else 0

/-- The layer's output for one row: the residual and the gated experts. -/
def out (x g : Fin 1024 → EReal) (gt : Fin 8 → EReal) (wg wu : Fin 8 → Fin 1024 → Fin 3584 → EReal) (wd : Fin 8 → Fin 3584 → Fin 1024 → EReal) (j : Fin 1024) : EReal :=
  x j + acc gt (down (nrm x g) wg wu wd j) 8

end Cert.Moe
end
end
-- ==== Proof.MoeBlock.lean ====
module
public import proofs.«01_k».proof.Proof.Gen.KernelIdeal.Frame
public import Idealize.ShloMosaic.Lib.Pipeline.ValueKit
public import Idealize.ShloMosaic.Lib.Claim
public import proofs.«01_k».proof.Proof.MoePay
public import proofs.«01_k».proof.Proof.MoeSpec
set_option maxRecDepth 16384
@[expose] public section
noncomputable section
open Idealize.ShloMosaic Idealize.ShloMosaic.TcCoe Idealize.SL.Sem
open Idealize.ShloMosaic.Pipeline (Dat)
namespace Cert.KernelIdeal.Moe
open Cert.KernelIdeal Cert.KernelIdeal.Gen Cert.Moe
variable (m : (ℓ : Loc nD τ sig) → Buf (Elt Ideal) ℓ)

theorem idx : ∀ t : Fin cfg0.N, win0_0.index t = ![t.val / 56, 0] ∧ win0_1.index t = ![0, 0] ∧ win0_2.index t = ![t.val / 56, 0] ∧ win0_3.index t = ![t.val / 7 % 8, 0, t.val % 7] ∧ win0_4.index t = ![t.val / 7 % 8, 0, t.val % 7] ∧ win0_5.index t = ![t.val / 7 % 8, t.val % 7, 0] ∧ win0_6.index t = ![t.val / 56, 0] ∧ t.val / 56 < 32 :=
  (by decide +kernel : ∀ t : Fin grid0.N, _)

/-- The row of the whole array that a block's row is. -/
def row (t : Fin cfg0.N) (r : Fin 512) : Fin 16384 := ⟨t.val / 56 * 512 + r.val, by have := (idx t).2.2.2.2.2.2.2; omega⟩
/-- The expert of a grid point. -/
def ex (t : Fin cfg0.N) : Fin 8 := ⟨t.val / 7 % 8, by omega⟩
/-- The hidden unit of a tile's lane. -/
def unit (t : Fin cfg0.N) (k : Fin 512) : Fin 3584 := ⟨t.val % 7 * 512 + k.val, by omega⟩

theorem x_at (c : Dev nD) (t : Fin cfg0.N) (r : Fin 512) (l : Fin 1024) :
    iblk m c 0 t (ix2 r l) = m ((c : Thread nD τ).loc main_arg0) (ix2 (row t r) l) := by
  simp only [row]
  blk_ext [iblk, V_main_arg0, idx t]

theorem g_at (c : Dev nD) (t : Fin cfg0.N) (l : Fin 1024) :
    iblk m c 1 t (ix2 0 l) = m ((c : Thread nD τ).loc main_arg1) (ix2 1 l) := by
  blk_simp [iblk, idx t]
  entry_read
  pointwise
  blk_ext [idx t]

theorem gt_at (c : Dev nD) (t : Fin cfg0.N) (r : Fin 512) (e : Fin 8) :
    iblk m c 2 t (ix2 r e) = m ((c : Thread nD τ).loc main_arg2) (ix2 (row t r) e) := by
  simp only [row]
  blk_ext [iblk, V_main_arg2, idx t]

theorem wg_at (c : Dev nD) (t : Fin cfg0.N) (l : Fin 1024) (k : Fin 512) :
    iblk m c 3 t (ix3 0 l k) = m ((c : Thread nD τ).loc main_arg3) (ix4 0 (ex t) l (unit t k)) := by
  simp only [ex, unit]
  blk_simp [iblk, idx t]
  entry_read
  pointwise
  blk_ext [idx t]

theorem wu_at (c : Dev nD) (t : Fin cfg0.N) (l : Fin 1024) (k : Fin 512) :
    iblk m c 4 t (ix3 0 l k) = m ((c : Thread nD τ).loc main_arg4) (ix4 0 (ex t) l (unit t k)) := by
  simp only [ex, unit]
  blk_simp [iblk, idx t]
  entry_read
  pointwise
  blk_ext [idx t]

theorem wd_at (c : Dev nD) (t : Fin cfg0.N) (k : Fin 512) (j : Fin 1024) :
    iblk m c 5 t (ix3 0 k j) = m ((c : Thread nD τ).loc main_arg5) (ix4 0 (ex t) (unit t k) j) := by
  simp only [ex, unit]
  blk_simp [iblk, idx t]
  entry_read
  pointwise
  blk_ext [idx t]
end Cert.KernelIdeal.Moe
end
end
-- ==== Proof.MoeRef.lean ====
module
public import proofs.«01_k».proof.Proof.Gen.ReferenceIdeal.Read
public import proofs.«01_k».proof.Proof.MoeSpec
set_option maxRecDepth 16384
@[expose] public section
noncomputable section
open Idealize.ShloMosaic Idealize.ShloMosaic.TcCoe Idealize.SL.Sem
namespace Cert.ReferenceIdeal.Moe
open Cert.ReferenceIdeal Cert.ReferenceIdeal.Gen Cert.ReferenceIdeal.Read Cert.Moe Cert.Swi

variable (x0 : FVec Ideal S16384x1024 .f32) (x1 : FVec Ideal S2x1024 .f32) (x2 : FVec Ideal S16384x8 .f32) (x3 x4 : FVec Ideal S1x8x1024x3584 .f32) (x5 : FVec Ideal S1x8x3584x1024 .f32)

/-- A token's normalised row. -/
def XN (t : Fin 16384) : Fin 1024 → EReal := nrm (fun l => x0 (ix2 t l)) (fun l => x1 (ix2 1 l))
/-- The experts' weights by expert. -/
def W (x : FVec Ideal S1x8x1024x3584 .f32) : Fin 8 → Fin 1024 → Fin 3584 → EReal := fun e l q => x (ix4 0 e l q)
def Wd (x : FVec Ideal S1x8x3584x1024 .f32) : Fin 8 → Fin 3584 → Fin 1024 → EReal := fun e q j => x (ix4 0 e q j)

theorem xn_at (t : Fin 16384) (l : Fin 1024) : val_main_v14 (F := Ideal) x0 x1 (ix2 t l) = XN x0 x1 t l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem gate0 (t : Fin 16384) (q : Fin 3584) : val_main_v18 (F := Ideal) x0 x1 x3 (ix2 t q) = ∑ l, XN x0 x1 t l * W x3 0 l q := by
  pointwise [val_main_v18, val_main_v17, val_main_v16]
  simp only [xn_at, W]
theorem up0 (t : Fin 16384) (q : Fin 3584) : val_main_v22 (F := Ideal) x0 x1 x4 (ix2 t q) = ∑ l, XN x0 x1 t l * W x4 0 l q := by
  pointwise [val_main_v22, val_main_v21, val_main_v20]
  simp only [xn_at, W]
theorem hid0 (t : Fin 16384) (q : Fin 3584) : val_main_v23 (F := Ideal) x0 x1 x3 x4 (ix2 t q) = hid (XN x0 x1 t) (W x3) (W x4) 0 q := by
  pointwise [val_main_v23, val_main_v19, val_main_call0_v5, val_main_call0_v4, val_main_call0_v3, val_main_call0_v2, val_main_call0_v1, val_main_call0_v0, val_main_call0_cst, val_main_call0_cst_0]
  rw [gate0, up0]
  rfl
theorem dn0 (t : Fin 16384) (j : Fin 1024) : val_main_v27 (F := Ideal) x0 x1 x3 x4 x5 (ix2 t j) = down (XN x0 x1 t) (W x3) (W x4) (Wd x5) j 0 := by
  pointwise [val_main_v27, val_main_v26, val_main_v25]
  simp only [hid0, down, Wd]
theorem sum0 (t : Fin 16384) (j : Fin 1024) : val_main_v30 (F := Ideal) x0 x1 x2 x3 x4 x5 (ix2 t j) = acc (fun e => x2 (ix2 t e)) (down (XN x0 x1 t) (W x3) (W x4) (Wd x5) j) 1 := by
  pointwise [val_main_v30, val_main_v29, val_main_v28, val_main_v24, val_main_v15, val_main_cst_2]
  rw [dn0]
  exact (zero_add _).symm

theorem gate1 (t : Fin 16384) (q : Fin 3584) : val_main_v33 (F := Ideal) x0 x1 x3 (ix2 t q) = ∑ l, XN x0 x1 t l * W x3 1 l q := by
  pointwise [val_main_v33, val_main_v32, val_main_v31]
  simp only [xn_at, W]
theorem up1 (t : Fin 16384) (q : Fin 3584) : val_main_v37 (F := Ideal) x0 x1 x4 (ix2 t q) = ∑ l, XN x0 x1 t l * W x4 1 l q := by
  pointwise [val_main_v37, val_main_v36, val_main_v35]
  simp only [xn_at, W]
theorem hid1 (t : Fin 16384) (q : Fin 3584) : val_main_v38 (F := Ideal) x0 x1 x3 x4 (ix2 t q) = hid (XN x0 x1 t) (W x3) (W x4) 1 q := by
  pointwise [val_main_v38, val_main_v34, val_main_call1_v5, val_main_call1_v4, val_main_call1_v3, val_main_call1_v2, val_main_call1_v1, val_main_call1_v0, val_main_call1_cst, val_main_call1_cst_0]
  rw [gate1, up1]
  rfl
theorem dn1 (t : Fin 16384) (j : Fin 1024) : val_main_v42 (F := Ideal) x0 x1 x3 x4 x5 (ix2 t j) = down (XN x0 x1 t) (W x3) (W x4) (Wd x5) j 1 := by
  pointwise [val_main_v42, val_main_v41, val_main_v40]
  simp only [hid1, down, Wd]
theorem sum1 (t : Fin 16384) (j : Fin 1024) : val_main_v45 (F := Ideal) x0 x1 x2 x3 x4 x5 (ix2 t j) = acc (fun e => x2 (ix2 t e)) (down (XN x0 x1 t) (W x3) (W x4) (Wd x5) j) 2 := by
  pointwise [val_main_v45, val_main_v44, val_main_v43, val_main_v39]
  rw [dn1, sum0]
  rfl

theorem gate2 (t : Fin 16384) (q : Fin 3584) : val_main_v48 (F := Ideal) x0 x1 x3 (ix2 t q) = ∑ l, XN x0 x1 t l * W x3 2 l q := by
  pointwise [val_main_v48, val_main_v47, val_main_v46]
  simp only [xn_at, W]
theorem up2 (t : Fin 16384) (q : Fin 3584) : val_main_v52 (F := Ideal) x0 x1 x4 (ix2 t q) = ∑ l, XN x0 x1 t l * W x4 2 l q := by
  pointwise [val_main_v52, val_main_v51, val_main_v50]
  simp only [xn_at, W]
theorem hid2 (t : Fin 16384) (q : Fin 3584) : val_main_v53 (F := Ideal) x0 x1 x3 x4 (ix2 t q) = hid (XN x0 x1 t) (W x3) (W x4) 2 q := by
  pointwise [val_main_v53, val_main_v49, val_main_call2_v5, val_main_call2_v4, val_main_call2_v3, val_main_call2_v2, val_main_call2_v1, val_main_call2_v0, val_main_call2_cst, val_main_call2_cst_0]
  rw [gate2, up2]
  rfl
theorem dn2 (t : Fin 16384) (j : Fin 1024) : val_main_v57 (F := Ideal) x0 x1 x3 x4 x5 (ix2 t j) = down (XN x0 x1 t) (W x3) (W x4) (Wd x5) j 2 := by
  pointwise [val_main_v57, val_main_v56, val_main_v55]
  simp only [hid2, down, Wd]
theorem sum2 (t : Fin 16384) (j : Fin 1024) : val_main_v60 (F := Ideal) x0 x1 x2 x3 x4 x5 (ix2 t j) = acc (fun e => x2 (ix2 t e)) (down (XN x0 x1 t) (W x3) (W x4) (Wd x5) j) 3 := by
  pointwise [val_main_v60, val_main_v59, val_main_v58, val_main_v54]
  rw [dn2, sum1]
  rfl

theorem gate3 (t : Fin 16384) (q : Fin 3584) : val_main_v63 (F := Ideal) x0 x1 x3 (ix2 t q) = ∑ l, XN x0 x1 t l * W x3 3 l q := by
  pointwise [val_main_v63, val_main_v62, val_main_v61]
  simp only [xn_at, W]
theorem up3 (t : Fin 16384) (q : Fin 3584) : val_main_v67 (F := Ideal) x0 x1 x4 (ix2 t q) = ∑ l, XN x0 x1 t l * W x4 3 l q := by
  pointwise [val_main_v67, val_main_v66, val_main_v65]
  simp only [xn_at, W]
theorem hid3 (t : Fin 16384) (q : Fin 3584) : val_main_v68 (F := Ideal) x0 x1 x3 x4 (ix2 t q) = hid (XN x0 x1 t) (W x3) (W x4) 3 q := by
  pointwise [val_main_v68, val_main_v64, val_main_call3_v5, val_main_call3_v4, val_main_call3_v3, val_main_call3_v2, val_main_call3_v1, val_main_call3_v0, val_main_call3_cst, val_main_call3_cst_0]
  rw [gate3, up3]
  rfl
theorem dn3 (t : Fin 16384) (j : Fin 1024) : val_main_v72 (F := Ideal) x0 x1 x3 x4 x5 (ix2 t j) = down (XN x0 x1 t) (W x3) (W x4) (Wd x5) j 3 := by
  pointwise [val_main_v72, val_main_v71, val_main_v70]
  simp only [hid3, down, Wd]
theorem sum3 (t : Fin 16384) (j : Fin 1024) : val_main_v75 (F := Ideal) x0 x1 x2 x3 x4 x5 (ix2 t j) = acc (fun e => x2 (ix2 t e)) (down (XN x0 x1 t) (W x3) (W x4) (Wd x5) j) 4 := by
  pointwise [val_main_v75, val_main_v74, val_main_v73, val_main_v69]
  rw [dn3, sum2]
  rfl

theorem gate4 (t : Fin 16384) (q : Fin 3584) : val_main_v78 (F := Ideal) x0 x1 x3 (ix2 t q) = ∑ l, XN x0 x1 t l * W x3 4 l q := by
  pointwise [val_main_v78, val_main_v77, val_main_v76]
  simp only [xn_at, W]
theorem up4 (t : Fin 16384) (q : Fin 3584) : val_main_v82 (F := Ideal) x0 x1 x4 (ix2 t q) = ∑ l, XN x0 x1 t l * W x4 4 l q := by
  pointwise [val_main_v82, val_main_v81, val_main_v80]
  simp only [xn_at, W]
theorem hid4 (t : Fin 16384) (q : Fin 3584) : val_main_v83 (F := Ideal) x0 x1 x3 x4 (ix2 t q) = hid (XN x0 x1 t) (W x3) (W x4) 4 q := by
  pointwise [val_main_v83, val_main_v79, val_main_call4_v5, val_main_call4_v4, val_main_call4_v3, val_main_call4_v2, val_main_call4_v1, val_main_call4_v0, val_main_call4_cst, val_main_call4_cst_0]
  rw [gate4, up4]
  rfl
theorem dn4 (t : Fin 16384) (j : Fin 1024) : val_main_v87 (F := Ideal) x0 x1 x3 x4 x5 (ix2 t j) = down (XN x0 x1 t) (W x3) (W x4) (Wd x5) j 4 := by
  pointwise [val_main_v87, val_main_v86, val_main_v85]
  simp only [hid4, down, Wd]
theorem sum4 (t : Fin 16384) (j : Fin 1024) : val_main_v90 (F := Ideal) x0 x1 x2 x3 x4 x5 (ix2 t j) = acc (fun e => x2 (ix2 t e)) (down (XN x0 x1 t) (W x3) (W x4) (Wd x5) j) 5 := by
  pointwise [val_main_v90, val_main_v89, val_main_v88, val_main_v84]
  rw [dn4, sum3]
  rfl

theorem gate5 (t : Fin 16384) (q : Fin 3584) : val_main_v93 (F := Ideal) x0 x1 x3 (ix2 t q) = ∑ l, XN x0 x1 t l * W x3 5 l q := by
  pointwise [val_main_v93, val_main_v92, val_main_v91]
  simp only [xn_at, W]
theorem up5 (t : Fin 16384) (q : Fin 3584) : val_main_v97 (F := Ideal) x0 x1 x4 (ix2 t q) = ∑ l, XN x0 x1 t l * W x4 5 l q := by
  pointwise [val_main_v97, val_main_v96, val_main_v95]
  simp only [xn_at, W]
theorem hid5 (t : Fin 16384) (q : Fin 3584) : val_main_v98 (F := Ideal) x0 x1 x3 x4 (ix2 t q) = hid (XN x0 x1 t) (W x3) (W x4) 5 q := by
  pointwise [val_main_v98, val_main_v94, val_main_call5_v5, val_main_call5_v4, val_main_call5_v3, val_main_call5_v2, val_main_call5_v1, val_main_call5_v0, val_main_call5_cst, val_main_call5_cst_0]
  rw [gate5, up5]
  rfl
theorem dn5 (t : Fin 16384) (j : Fin 1024) : val_main_v102 (F := Ideal) x0 x1 x3 x4 x5 (ix2 t j) = down (XN x0 x1 t) (W x3) (W x4) (Wd x5) j 5 := by
  pointwise [val_main_v102, val_main_v101, val_main_v100]
  simp only [hid5, down, Wd]
theorem sum5 (t : Fin 16384) (j : Fin 1024) : val_main_v105 (F := Ideal) x0 x1 x2 x3 x4 x5 (ix2 t j) = acc (fun e => x2 (ix2 t e)) (down (XN x0 x1 t) (W x3) (W x4) (Wd x5) j) 6 := by
  pointwise [val_main_v105, val_main_v104, val_main_v103, val_main_v99]
  rw [dn5, sum4]
  rfl

theorem gate6 (t : Fin 16384) (q : Fin 3584) : val_main_v108 (F := Ideal) x0 x1 x3 (ix2 t q) = ∑ l, XN x0 x1 t l * W x3 6 l q := by
  pointwise [val_main_v108, val_main_v107, val_main_v106]
  simp only [xn_at, W]
theorem up6 (t : Fin 16384) (q : Fin 3584) : val_main_v112 (F := Ideal) x0 x1 x4 (ix2 t q) = ∑ l, XN x0 x1 t l * W x4 6 l q := by
  pointwise [val_main_v112, val_main_v111, val_main_v110]
  simp only [xn_at, W]
theorem hid6 (t : Fin 16384) (q : Fin 3584) : val_main_v113 (F := Ideal) x0 x1 x3 x4 (ix2 t q) = hid (XN x0 x1 t) (W x3) (W x4) 6 q := by
  pointwise [val_main_v113, val_main_v109, val_main_call6_v5, val_main_call6_v4, val_main_call6_v3, val_main_call6_v2, val_main_call6_v1, val_main_call6_v0, val_main_call6_cst, val_main_call6_cst_0]
  rw [gate6, up6]
  rfl
theorem dn6 (t : Fin 16384) (j : Fin 1024) : val_main_v117 (F := Ideal) x0 x1 x3 x4 x5 (ix2 t j) = down (XN x0 x1 t) (W x3) (W x4) (Wd x5) j 6 := by
  pointwise [val_main_v117, val_main_v116, val_main_v115]
  simp only [hid6, down, Wd]
theorem sum6 (t : Fin 16384) (j : Fin 1024) : val_main_v120 (F := Ideal) x0 x1 x2 x3 x4 x5 (ix2 t j) = acc (fun e => x2 (ix2 t e)) (down (XN x0 x1 t) (W x3) (W x4) (Wd x5) j) 7 := by
  pointwise [val_main_v120, val_main_v119, val_main_v118, val_main_v114]
  rw [dn6, sum5]
  rfl

theorem gate7 (t : Fin 16384) (q : Fin 3584) : val_main_v123 (F := Ideal) x0 x1 x3 (ix2 t q) = ∑ l, XN x0 x1 t l * W x3 7 l q := by
  pointwise [val_main_v123, val_main_v122, val_main_v121]
  simp only [xn_at, W]
theorem up7 (t : Fin 16384) (q : Fin 3584) : val_main_v127 (F := Ideal) x0 x1 x4 (ix2 t q) = ∑ l, XN x0 x1 t l * W x4 7 l q := by
  pointwise [val_main_v127, val_main_v126, val_main_v125]
  simp only [xn_at, W]
theorem hid7 (t : Fin 16384) (q : Fin 3584) : val_main_v128 (F := Ideal) x0 x1 x3 x4 (ix2 t q) = hid (XN x0 x1 t) (W x3) (W x4) 7 q := by
  pointwise [val_main_v128, val_main_v124, val_main_call7_v5, val_main_call7_v4, val_main_call7_v3, val_main_call7_v2, val_main_call7_v1, val_main_call7_v0, val_main_call7_cst, val_main_call7_cst_0]
  rw [gate7, up7]
  rfl
theorem dn7 (t : Fin 16384) (j : Fin 1024) : val_main_v132 (F := Ideal) x0 x1 x3 x4 x5 (ix2 t j) = down (XN x0 x1 t) (W x3) (W x4) (Wd x5) j 7 := by
  pointwise [val_main_v132, val_main_v131, val_main_v130]
  simp only [hid7, down, Wd]
theorem sum7 (t : Fin 16384) (j : Fin 1024) : val_main_v135 (F := Ideal) x0 x1 x2 x3 x4 x5 (ix2 t j) = acc (fun e => x2 (ix2 t e)) (down (XN x0 x1 t) (W x3) (W x4) (Wd x5) j) 8 := by
  pointwise [val_main_v135, val_main_v134, val_main_v133, val_main_v129]
  rw [dn7, sum6]
  rfl

/-- The reference's result at an index is the layer's output of that token. -/
theorem out_at (t : Fin 16384) (j : Fin 1024) :
    val_main_v136 (F := Ideal) x0 x1 x2 x3 x4 x5 (ix2 t j)
      = out (fun l => x0 (ix2 t l)) (fun l => x1 (ix2 1 l)) (fun e => x2 (ix2 t e)) (W x3) (W x4) (Wd x5) j := by
  pointwise [val_main_v136]
  rw [sum7]
  rfl
end Cert.ReferenceIdeal.Moe
end
end
-- ==== Proof.MoePoint.lean ====
module
public import proofs.«01_k».proof.Proof.MoeBlock
public import proofs.«01_k».proof.Proof.MoeRef
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)
namespace Cert.KernelIdeal.Moe
open Cert.KernelIdeal Cert.KernelIdeal.Gen Cert.Moe
variable (m : (ℓ : Loc nD τ sig) → Buf (Elt Ideal) ℓ)

/-- What the point before left. -/
def prev (c : Dev nD) (t : Fin cfg0.N) := outsAt0 m c (t.val - 1) (Nat.lt_of_le_of_lt (Nat.sub_le _ _) t.isLt)

theorem coord1 (t : Fin cfg0.N) : BitVec.ofNat 32 (grid0.coords t 1).val = BitVec.ofNat 32 (ex t).val := by
  have e1 : (grid0.coords t 1).val = t.val / 7 % 8 := Pipeline.Grid.coords_val t 1 (by decide) rfl
  rw [e1]; rfl

theorem xnA (c : Dev nD) (t : Fin cfg0.N) (h : t.val % 56 = 0) :
    (outsAt0 m c t.val t.isLt).2.1 = k0_pay4 (iblk m c 0 t) (iblk m c 1 t) := by
  rw [outsAt0_A m c t h (by omega) (by omega) (by omega)]
  frame_out
theorem xnN (c : Dev nD) (t : Fin cfg0.N) (h : ¬ t.val % 56 = 0) :
    (outsAt0 m c t.val t.isLt).2.1 = (prev m c t).2.1 := by
  by_cases h1 : t.val % 7 = 0
  · rw [outsAt0_D m c t h h1 (by omega) (by omega)]; frame_out; rfl
  by_cases h2 : t.val % 7 = 6
  · by_cases h3 : t.val % 56 = 55
    · rw [outsAt0_E m c t h h1 h2 h3]; frame_out; rfl
    · rw [outsAt0_C m c t h h1 h2 h3]; frame_out; rfl
  · rw [outsAt0_B m c t h h1 h2 (by omega)]; frame_out; rfl

theorem partZ (c : Dev nD) (t : Fin cfg0.N) (h1 : t.val % 7 = 0) :
    (outsAt0 m c t.val t.isLt).2.2.2 = k0_pay1 (k0_pay7 (outsAt0 m c t.val t.isLt).2.1 (iblk m c 3 t) (iblk m c 4 t) (k0_pay6 (F := Ideal)) (iblk m c 5 t)) := by
  by_cases h : t.val % 56 = 0
  · rw [xnA m c t h, outsAt0_A m c t h h1 (by omega) (by omega)]
    frame_out
  · rw [xnN m c t h, outsAt0_D m c t h h1 (by omega) (by omega)]
    frame_out; simp only [read_unread_whole, prev]
theorem partN (c : Dev nD) (t : Fin cfg0.N) (h1 : ¬ t.val % 7 = 0) :
    (outsAt0 m c t.val t.isLt).2.2.2 = k0_pay1 (k0_pay7 (outsAt0 m c t.val t.isLt).2.1 (iblk m c 3 t) (iblk m c 4 t) (prev m c t).2.2.2 (iblk m c 5 t)) := by
  have h : ¬ t.val % 56 = 0 := by omega
  rw [xnN m c t h]
  by_cases h2 : t.val % 7 = 6
  · by_cases h3 : t.val % 56 = 55
    · rw [outsAt0_E m c t h h1 h2 h3]; frame_out; simp only [read_unread_whole, prev]
    · rw [outsAt0_C m c t h h1 h2 h3]; frame_out; simp only [read_unread_whole, prev]
  · rw [outsAt0_B m c t h h1 h2 (by omega)]; frame_out; simp only [read_unread_whole, prev]

theorem accZ (c : Dev nD) (t : Fin cfg0.N) (h : t.val % 56 = 0) : (outsAt0 m c t.val t.isLt).2.2.1 = k0_pay5 (F := Ideal) := by
  rw [outsAt0_A m c t h (by omega) (by omega) (by omega)]
  frame_out
theorem accN (c : Dev nD) (t : Fin cfg0.N) (h : ¬ t.val % 56 = 0) (h2 : ¬ t.val % 7 = 6) : (outsAt0 m c t.val t.isLt).2.2.1 = (prev m c t).2.2.1 := by
  by_cases h1 : t.val % 7 = 0
  · rw [outsAt0_D m c t h h1 h2 (by omega)]; frame_out; rfl
  · rw [outsAt0_B m c t h h1 h2 (by omega)]; frame_out; rfl
theorem accL (c : Dev nD) (t : Fin cfg0.N) (h2 : t.val % 7 = 6) :
    (outsAt0 m c t.val t.isLt).2.2.1 = k0_pay2 (BitVec.ofNat 32 (ex t).val) (iblk m c 2 t) (prev m c t).2.2.1 (outsAt0 m c t.val t.isLt).2.2.2 := by
  have h : ¬ t.val % 56 = 0 := by omega
  have h1 : ¬ t.val % 7 = 0 := by omega
  rw [partN m c t h1, xnN m c t h, ← coord1]
  by_cases h3 : t.val % 56 = 55
  · rw [outsAt0_E m c t h h1 h2 h3]; frame_out; simp only [read_unread_whole, prev]
  · rw [outsAt0_C m c t h h1 h2 h3]; frame_out; simp only [read_unread_whole, prev]
theorem outL (c : Dev nD) (t : Fin cfg0.N) (h3 : t.val % 56 = 55) :
    (outsAt0 m c t.val t.isLt).1 = k0_pay3 (iblk m c 0 t) (outsAt0 m c t.val t.isLt).2.2.1 := by
  have h2 : t.val % 7 = 6 := by omega
  have h : ¬ t.val % 56 = 0 := by omega
  have h1 : ¬ t.val % 7 = 0 := by omega
  rw [accL m c t h2, partN m c t h1, xnN m c t h, ← coord1, outsAt0_E m c t h h1 h2 h3]; frame_out; simp only [read_unread_whole, prev]

/-- The arrays of the call, read by row and expert. -/
def X (c : Dev nD) (R : Fin 16384) (l : Fin 1024) : EReal := m ((c : Thread nD τ).loc main_arg0) (ix2 R l)
def N (c : Dev nD) (l : Fin 1024) : EReal := m ((c : Thread nD τ).loc main_arg1) (ix2 1 l)
def Gt (c : Dev nD) (R : Fin 16384) (e : Fin 8) : EReal := m ((c : Thread nD τ).loc main_arg2) (ix2 R e)
def Wg (c : Dev nD) (e : Fin 8) (l : Fin 1024) (q : Fin 3584) : EReal := m ((c : Thread nD τ).loc main_arg3) (ix4 0 e l q)
def Wu (c : Dev nD) (e : Fin 8) (l : Fin 1024) (q : Fin 3584) : EReal := m ((c : Thread nD τ).loc main_arg4) (ix4 0 e l q)
def Wd (c : Dev nD) (e : Fin 8) (q : Fin 3584) (j : Fin 1024) : EReal := m ((c : Thread nD τ).loc main_arg5) (ix4 0 e q j)
/-- A row of the call, normalised. -/
def Xn (c : Dev nD) (R : Fin 16384) : Fin 1024 → EReal := Cert.Swi.nrm (X m c R) (N m c)

theorem acc_zero (gt D : Fin 8 → EReal) (n : ℕ) (h : n = 0) : Cert.Moe.acc gt D n = 0 := by rw [h, Cert.Moe.acc]

/-- What the scratches hold after a grid point: the tile's normalised rows, the expert's output so far, the experts so far. -/
structure State (c : Dev nD) (t : Fin cfg0.N) : Prop where
  xn : ∀ r l, (outsAt0 m c t.val t.isLt).2.1 (ix2 r l) = Xn m c (row t r) l
  part : ∀ r j, (outsAt0 m c t.val t.isLt).2.2.2 (ix2 r j) = ∑ f ∈ Finset.range (t.val % 7 + 1), part (Xn m c (row t r)) (Wg m c) (Wu m c) (Wd m c) j (ex t) f
  acc : ∀ r j, (outsAt0 m c t.val t.isLt).2.2.1 (ix2 r j) = acc (Gt m c (row t r)) (down (Xn m c (row t r)) (Wg m c) (Wu m c) (Wd m c) j) ((t.val % 56 + 1) / 7)

/-- A tile's product as the spec's part of the expert's output. -/
theorem tile (c : Dev nD) (t : Fin cfg0.N) (xn : FVec Ideal S512x1024 .bf16) (p : FVec Ideal S512x1024 .f32) (r : Fin 512) (j : Fin 1024)
    (h : ∀ l, xn (ix2 r l) = Xn m c (row t r) l) :
    k0_pay1 (k0_pay7 (F := Ideal) xn (iblk m c 3 t) (iblk m c 4 t) p (iblk m c 5 t)) (ix2 r j)
      = p (ix2 r j) + part (Xn m c (row t r)) (Wg m c) (Wu m c) (Wd m c) j (ex t) (t.val % 7) := by
  refine (part_at xn (iblk m c 3 t) (iblk m c 4 t) p (iblk m c 5 t) r j).trans (congrArg (p (ix2 r j) + ·) ?_)
  rw [part, dif_pos (Nat.mod_lt _ (by omega))]
  refine Finset.sum_congr rfl fun k _ => ?_
  exact congrArg₂ (· * ·) (congrArg₂ Cert.Swi.act (Finset.sum_congr rfl fun l _ => congrArg₂ (· * ·) (h l) (wg_at m c t l k))
    (Finset.sum_congr rfl fun l _ => congrArg₂ (· * ·) (h l) (wu_at m c t l k))) (wd_at m c t k j)

theorem state (c : Dev nD) : ∀ n (hn : n < cfg0.N), State m c ⟨n, hn⟩ := by
  intro n
  induction n with
  | zero =>
    intro hn
    have hx : ∀ r l, (outsAt0 m c 0 hn).2.1 (ix2 r l) = Xn m c (row ⟨0, hn⟩ r) l := by
      intro r l
      rw [xnA m c ⟨0, hn⟩ rfl]
      refine (xn_at _ _ r l).trans ?_
      exact congrArg₂ (fun a b => Cert.Swi.nrm a b l) (funext fun l => x_at m c ⟨0, hn⟩ r l) (funext fun l => g_at m c ⟨0, hn⟩ l)
    refine ⟨hx, fun r j => ?_, fun r j => ?_⟩
    · rw [partZ m c ⟨0, hn⟩ rfl]
      refine (tile m c ⟨0, hn⟩ _ _ r j (hx r)).trans ?_
      rw [zero_part, zero_add]
      exact (Finset.sum_range_one _).symm
    · rw [accZ m c ⟨0, hn⟩ rfl]
      exact (zero_acc r j).trans (acc_zero _ _ ((0 % 56 + 1) / 7) rfl).symm
  | succ n ih =>
    intro hn
    have hN : n + 1 < 1792 := hn
    have S := ih (by omega)
    generalize ht : (⟨n + 1, hn⟩ : Fin cfg0.N) = t
    have hv : t.val = n + 1 := by rw [← ht]
    have hp : prev m c t = outsAt0 m c n (by omega) := by subst ht; rfl
    have hx : ∀ r l, (outsAt0 m c t.val t.isLt).2.1 (ix2 r l) = Xn m c (row t r) l := by
      intro r l
      by_cases h0 : t.val % 56 = 0
      · rw [xnA m c t h0]
        refine (xn_at _ _ r l).trans ?_
        exact congrArg₂ (fun a b => Cert.Swi.nrm a b l) (funext fun l => x_at m c t r l) (funext fun l => g_at m c t l)
      · rw [xnN m c t h0, hp]
        refine (S.xn r l).trans (congrArg (fun R => Xn m c R l) (Fin.ext ?_))
        simp only [row]
        omega
    have hq : ∀ r j, (outsAt0 m c t.val t.isLt).2.2.2 (ix2 r j) = ∑ f ∈ Finset.range (t.val % 7 + 1), part (Xn m c (row t r)) (Wg m c) (Wu m c) (Wd m c) j (ex t) f := by
      intro r j
      by_cases h1 : t.val % 7 = 0
      · rw [partZ m c t h1]
        refine (tile m c t _ _ r j (hx r)).trans ?_
        rw [zero_part, zero_add, h1]
        exact (Finset.sum_range_one _).symm
      · rw [partN m c t h1]
        refine (tile m c t _ _ r j (hx r)).trans ?_
        rw [Finset.sum_range_succ]
        refine congrArg (· + _) ?_
        rw [hp]
        refine (S.part r j).trans ?_
        have e1 : row ⟨n, by omega⟩ r = row t r := Fin.ext (by simp only [row]; omega)
        have e2 : ex ⟨n, by omega⟩ = ex t := Fin.ext (by simp only [ex]; omega)
        have e3 : n % 7 + 1 = t.val % 7 := by omega
        rw [e1, e2]
        exact Finset.sum_congr (congrArg Finset.range e3) fun _ _ => rfl
    refine ⟨hx, hq, fun r j => ?_⟩
    by_cases h0 : t.val % 56 = 0
    · rw [accZ m c t h0]
      exact (zero_acc r j).trans (acc_zero _ _ _ (by omega)).symm
    have e1 : row ⟨n, by omega⟩ r = row t r := Fin.ext (by simp only [row]; omega)
    by_cases h2 : t.val % 7 = 6
    · rw [accL m c t h2]
      refine (acc_at (ex t) (iblk m c 2 t) _ _ r j).trans ?_
      rw [hq r j, h2, part_sum, gt_at, hp, S.acc r j, e1]
      have e4 : (n % 56 + 1) / 7 = (ex t).val := by simp only [ex]; omega
      have e5 : (t.val % 56 + 1) / 7 = (ex t).val + 1 := by simp only [ex]; omega
      refine (congrArg (fun k => acc _ _ k + _) e4).trans ?_
      rw [e5, acc, dif_pos (ex t).isLt]
      rfl
    · rw [accN m c t h0 h2, hp, S.acc r j, e1]
      exact congrArg (fun k => acc _ _ k) (by show (n % 56 + 1) / 7 = _; omega)

/-- The layer's result array: the experts' outputs of every token. -/
def G (c : Dev nD) : FVec Ideal S16384x1024 .f32 :=
  Cert.ReferenceIdeal.Read.val_main_v136 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- What a tile's last grid point leaves in its block is the layer's output of the tile's tokens. -/
theorem point (c : Dev nD) (t : Fin cfg0.N) (h : t.val % 56 = 55) (r : Fin 512) (j : Fin 1024) :
    (outsAt0 m c t.val t.isLt).1 (ix2 r j) = G m c (ix2 (row t r) j) := by
  rw [outL m c t h]
  refine (out_at (iblk m c 0 t) _ r j).trans ?_
  rw [(state m c t.val t.isLt).acc r j, x_at]
  refine Eq.trans ?_ (Cert.ReferenceIdeal.Moe.out_at _ _ _ _ _ _ (row t r) j).symm
  have e : (t.val % 56 + 1) / 7 = 8 := by omega
  exact congrArg (fun k => X m c (row t r) j + acc _ _ k) e

/-- The result array after the run. -/
theorem final (c : Dev nD) : (dats m 0 c).arrAt 6 (cfgs 0).N = G m c := by
  refine (dats m 0 c).arrAt_eq_of_covers 6 _ (by decide +kernel) fun t hf y => ?_
  blk_simp
  rw [after0_6]
  idx_vars y
  refine (point m c t ((flush0_6 t).mp hf) y0 y1).trans (congrArg (G m c) ?_)
  simp only [row]
  blk_ext [idx t]
end Cert.KernelIdeal.Moe
end
end
-- ==== Proof.AttnSpec.lean ====
module
public import Idealize.ShloMosaic.Lib.Pointwise
set_option maxRecDepth 16384
@[expose] public section
noncomputable section
open Idealize.ShloMosaic

/-! The attention of one token over its memory, over the extended reals: the common reading of the
    kernel's block and of the reference's array. -/
namespace Cert.Attn

/-- The column of the head `h` at the offset `d` within it. -/
def col (h : Fin 4) (d : Fin 256) : Fin 1024 := ⟨h.val * 256 + d.val, by omega⟩

/-- The query row: the token normalised by its root mean square, scaled, and multiplied with the weights. -/
def qrow (x g : Fin 1024 → EReal) (w : Fin 1024 → Fin 1024 → EReal) (k : Fin 1024) : EReal :=
  ∑ l, x l * Ideal.rsqrt (Ideal.div (∑ i, x i * x i) (Ideal.ofBits .f32 1149239296#32) + Ideal.ofBits .f32 897988541#32) * g l * w l k

/-- The scaled score of the query's head `h` against the memory row `a`. -/
def logit (q : Fin 1024 → EReal) (K : Fin 256 → Fin 1024 → EReal) (h : Fin 4) : Fin 256 → EReal := fun a =>
  (∑ d, q (col h d) * K a (col h d)) * Ideal.ofBits .f32 1031798784#32

/-- The softmax of one row of scores. -/
def prob (s : Fin 256 → EReal) (a : Fin 256) : EReal :=
  Ideal.div (Ideal.exp (s a - Finset.fold max (Ideal.ofBits .f32 4286578688#32) s Finset.univ))
    (∑ b, Ideal.exp (s b - Finset.fold max (Ideal.ofBits .f32 4286578688#32) s Finset.univ))

/-- One head's output: the memory's values averaged with the softmax's weights. -/
def head (q : Fin 1024 → EReal) (K V : Fin 256 → Fin 1024 → EReal) (h : Fin 4) (d : Fin 256) : EReal :=
  ∑ a, prob (logit q K h) a * V a (col h d)

/-- The layer's output for one token: the residual and the heads multiplied with the output weights. -/
def out (x g : Fin 1024 → EReal) (wq wo : Fin 1024 → Fin 1024 → EReal) (K V : Fin 256 → Fin 1024 → EReal) (j : Fin 1024) : EReal :=
  x j + ∑ h : Fin 4, ∑ d : Fin 256, head (qrow x g wq) K V h d * wo (col h d) j

/-- The output depends only on the values of its arguments. -/
theorem out_congr {x x' g g' : Fin 1024 → EReal} {wq wq' wo wo' : Fin 1024 → Fin 1024 → EReal} {K K' V V' : Fin 256 → Fin 1024 → EReal}
    (hx : x = x') (hg : g = g') (hq : wq = wq') (ho : wo = wo') (hK : K = K') (hV : V = V') (j : Fin 1024) :
    out x g wq wo K V j = out x' g' wq' wo' K' V' j := by
  subst hx hg hq ho hK hV; rfl

end Cert.Attn
end
end
-- ==== Proof.AttnPay.lean ====
module
public import proofs.«01_k».proof.Proof.Gen.Kernel2Ideal.Skeleton
public import proofs.«01_k».proof.Proof.AttnSpec
set_option maxRecDepth 16384
@[expose] public section
noncomputable section
open Idealize.ShloMosaic Idealize.ShloMosaic.TcCoe Idealize.SL.Sem
namespace Cert.Kernel2Ideal.Attn
open Cert.Kernel2Ideal Cert.Kernel2Ideal.Gen Cert.Attn

/-- The query payload at a row and a column. -/
theorem q_at (x : FVec Ideal S1x512x1024 .f32) (g : FVec Ideal S1x1024 .f32) (w : FVec Ideal S1024x1024 .bf16) (r : Fin 512) (k : Fin 1024) :
    k0_pay3 (F := Ideal) x g w (ix2 r k) = qrow (fun l => x (ix3 0 r l)) (fun l => g (ix2 0 l)) (fun l k => w (ix2 l k)) k := by
  pointwise [k0_pay3, k0_pay2]
  rfl

theorem k_at' (k : FVec Ideal S1x256x1024 .f32) (a : Fin 256) (l : Fin 1024) : k0_pay4 (F := Ideal) k (ix2 a l) = k (ix3 0 a l) := by
  pointwise [k0_pay4]
theorem v_at' (k : FVec Ideal S1x256x1024 .f32) (a : Fin 256) (l : Fin 1024) : k0_pay5 (F := Ideal) k (ix2 a l) = k (ix3 0 a l) := by
  pointwise [k0_pay5]

/-- A head's scores of a block of queries. -/
def s0 (q : FVec Ideal S512x1024 .bf16) (k : FVec Ideal S256x1024 .bf16) : FVec Ideal S512x256 .f32 :=
  mulf (matmul dot_S512x256_S256x256_S512x256_1_1_0_0_n_n none (extractStridedSlice S512x256 ![0, 0] q slices_S512x1024_o0_0_S512x256)
      (extractStridedSlice S256x256 ![0, 0] k slices_S256x1024_o0_0_S256x256) (constant S512x256 .f32 0x00000000#32))
    (broadcast S512x256 (Scalar.ofBits .f32 0x3D800000#32))

/-- The exponentials of a block of scores, each row less its maximum. -/
def ex (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

theorem pay6_eq (x : FVec Ideal S1x512x1024 .f32) (g : FVec Ideal S1x1024 .f32) (wq : FVec Ideal S1024x1024 .bf16) (k : FVec Ideal S1x256x1024 .f32) :
    k0_pay6 (F := Ideal) x g wq k = ex (s0 (k0_pay3 x g wq) (k0_pay4 k)) := rfl

/-- The first head. -/
theorem h0_at (q : FVec Ideal S512x1024 .bf16) (k v : FVec Ideal S256x1024 .bf16) (r : Fin 512) (d : Fin 256) :
    k0_pay7 (F := Ideal) v (ex (s0 q k)) (ix2 r d)
      = head (fun l => q (ix2 r l)) (fun a l => k (ix2 a l)) (fun a l => v (ix2 a l)) 0 d := by
  pointwise [k0_pay7, ex, s0]
  simp only [head, prob, logit, col]
  pointwise
  rfl

/-- The second head. -/
theorem h1_at (q : FVec Ideal S512x1024 .bf16) (k v : FVec Ideal S256x1024 .bf16) (r : Fin 512) (d : Fin 256) :
    k0_pay8 (F := Ideal) q k v (ix2 r d)
      = head (fun l => q (ix2 r l)) (fun a l => k (ix2 a l)) (fun a l => v (ix2 a l)) 1 d := by
  pointwise [k0_pay8]
  rfl

/-- The third head. -/
theorem h2_at (q : FVec Ideal S512x1024 .bf16) (k v : FVec Ideal S256x1024 .bf16) (r : Fin 512) (d : Fin 256) :
    k0_pay9 (F := Ideal) q k v (ix2 r d)
      = head (fun l => q (ix2 r l)) (fun a l => k (ix2 a l)) (fun a l => v (ix2 a l)) 2 d := by
  pointwise [k0_pay9]
  rfl

/-- The fourth head, from its scores. -/
def o3 (v : FVec Ideal S256x1024 .bf16) (s : FVec Ideal S512x256 .f32) : FVec Ideal S512x256 .f32 :=
  matmul dot_S512x256_S256x256_S512x256_1_0_0_1_n_n none
    (truncf .bf16 (divf (ex s) (broadcastTo S512x256 (shapeCast S512x1 (multiReduction .add [1] S512 (ex s) 0x00000000#32 reduces_S512x256_S512 (.inl rfl) rfl) shapeCasts_S512_S512x1) broadcasts_S512x1_S512x256)) bitsLt_bf16_f32)
    (extractStridedSlice S256x256 ![0, 768] v slices_S256x1024_o0_768_S256x256) (constant S512x256 .f32 0x00000000#32)

/-- The heads side by side, multiplied with the output weights and added to the residual. -/
def tail (x : FVec Ideal S512x1024 .f32) (a b c d : FVec Ideal S512x256 .f32) (wo : FVec Ideal S1024x1024 .bf16) : FVec Ideal S1x512x1024 .f32 :=
  shapeCast S1x512x1024 (addf x (matmul dot_S512x1024_S1024x1024_S512x1024_1_0_0_1_n_n none
    (truncf .bf16 (concatenate S512x1024 1 [⟨S512x256, a⟩, ⟨S512x256, b⟩, ⟨S512x256, c⟩, ⟨S512x256, d⟩] concatenates_S512x256_S512x256_S512x256_S512x256_S512x1024_d1) bitsLt_bf16_f32)
    (shapeCast S1024x1024 wo shapeCasts_S1024x1024_S1024x1024) (constant S512x1024 .f32 0x00000000#32))) shapeCasts_S512x1024_S1x512x1024

theorem pay_eq (x : FVec Ideal S512x1024 .f32) (v : FVec Ideal S256x1024 .bf16) (a b c s : FVec Ideal S512x256 .f32) (wo : FVec Ideal S1024x1024 .bf16) :
    k0_pay1 (F := Ideal) x v a b c s wo = tail x a b c (o3 v s) wo := rfl

theorem h3_at (q : FVec Ideal S512x1024 .bf16) (k v : FVec Ideal S256x1024 .bf16) (r : Fin 512) (d : Fin 256) :
    o3 v (k0_pay10 q k) (ix2 r d) = head (fun l => q (ix2 r l)) (fun a l => k (ix2 a l)) (fun a l => v (ix2 a l)) 3 d := by
  pointwise [o3, ex, k0_pay10]
  rfl

theorem tail_at (x : FVec Ideal S512x1024 .f32) (a b c d : FVec Ideal S512x256 .f32) (wo : FVec Ideal S1024x1024 .bf16) (r : Fin 512) (j : Fin 1024)
    (H : Fin 4 → Fin 256 → EReal) (h0 : ∀ e, a (ix2 r e) = H 0 e) (h1 : ∀ e, b (ix2 r e) = H 1 e) (h2 : ∀ e, c (ix2 r e) = H 2 e) (h3 : ∀ e, d (ix2 r e) = H 3 e) :
    tail x a b c d wo (ix3 0 r j) = x (ix2 r j) + ∑ h : Fin 4, ∑ e : Fin 256, H h e * wo (ix2 (col h e) j) := by
  pointwise [tail]
  refine congrArg (x (ix2 r j) + ·) ?_
  rw [Fin.sum_univ_tiles 4 256 rfl]
  refine Finset.sum_congr rfl fun h _ => Finset.sum_congr rfl fun e _ => ?_
  refine congrArg (· * wo (ix2 (col h e) j)) ?_
  rcases h with ⟨n, hn⟩
  dsimp only
  obtain rfl | rfl | rfl | rfl : n = 0 ∨ n = 1 ∨ n = 2 ∨ n = 3 := by omega
  · have c0 : 0 * 256 + e.val < 256 := by omega
    rw [dif_pos c0]
    exact (congrArg (fun i => a (ix2 r i)) (Fin.ext (by dsimp only; omega))).trans (h0 e)
  · have c0 : ¬ 1 * 256 + e.val < 256 := by omega
    have c1 : 1 * 256 + e.val - 256 < 256 := by omega
    rw [dif_neg c0, dif_pos c1]
    exact (congrArg (fun i => b (ix2 r i)) (Fin.ext (by dsimp only; omega))).trans (h1 e)
  · have c0 : ¬ 2 * 256 + e.val < 256 := by omega
    have c1 : ¬ 2 * 256 + e.val - 256 < 256 := by omega
    have c2 : 2 * 256 + e.val - 256 - 256 < 256 := by omega
    rw [dif_neg c0, dif_neg c1, dif_pos c2]
    exact (congrArg (fun i => c (ix2 r i)) (Fin.ext (by dsimp only; omega))).trans (h2 e)
  · have c0 : ¬ 3 * 256 + e.val < 256 := by omega
    have c1 : ¬ 3 * 256 + e.val - 256 < 256 := by omega
    have c2 : ¬ 3 * 256 + e.val - 256 - 256 < 256 := by omega
    rw [dif_neg c0, dif_neg c1, dif_neg c2]
    exact (congrArg (fun i => d (ix2 r i)) (Fin.ext (by dsimp only; omega))).trans (h3 e)
end Cert.Kernel2Ideal.Attn
end
end
-- ==== Proof.AttnBlock.lean ====
module
public import proofs.«01_k».proof.Proof.Gen.Kernel2Ideal.Frame
public import Idealize.ShloMosaic.Lib.Pipeline.ValueKit
public import Idealize.ShloMosaic.Lib.Claim
public import proofs.«01_k».proof.Proof.AttnPay
set_option maxRecDepth 16384
@[expose] public section
noncomputable section
open Idealize.ShloMosaic Idealize.ShloMosaic.TcCoe Idealize.SL.Sem
open Idealize.ShloMosaic.Pipeline (Dat)
namespace Cert.Kernel2Ideal.Attn
open Cert.Kernel2Ideal Cert.Kernel2Ideal.Gen Cert.Attn
variable (m : (ℓ : Loc nD τ sig) → Buf (Elt Ideal) ℓ)

theorem idx : ∀ t : Fin cfg0.N, win0_0.index t = ![t.val / 4, t.val % 4, 0] ∧ win0_1.index t = ![0, 0] ∧ win0_2.index t = ![0, 0] ∧ win0_3.index t = ![0, 0] ∧ win0_4.index t = ![t.val / 4, 0, 0] ∧ win0_5.index t = ![t.val / 4, 0, 0] ∧ win0_6.index t = ![t.val / 4, t.val % 4, 0] ∧ t.val / 4 < 8 :=
  (by decide +kernel : ∀ t : Fin grid0.N, _)

/-- The prompt's number at a grid point. -/
def bt (t : Fin cfg0.N) : Fin 8 := ⟨t.val / 4, (idx t).2.2.2.2.2.2.2⟩
/-- The position of a block's row in its prompt. -/
def row (t : Fin cfg0.N) (r : Fin 512) : Fin 2048 := ⟨t.val % 4 * 512 + r.val, by omega⟩

theorem x_at (c : Dev nD) (t : Fin cfg0.N) (r : Fin 512) (l : Fin 1024) :
    iblk m c 0 t (ix3 0 r l) = m ((c : Thread nD τ).loc main_arg0) (ix3 (bt t) (row t r) l) := by
  simp only [bt, row]
  blk_ext [iblk, V_main_arg0, idx t]

theorem g_at (c : Dev nD) (t : Fin cfg0.N) (l : Fin 1024) :
    iblk m c 1 t (ix2 0 l) = m ((c : Thread nD τ).loc main_arg1) (ix2 0 l) := by
  blk_simp [iblk, idx t]
  entry_read
  pointwise
  blk_ext [idx t]

theorem wq_at (c : Dev nD) (t : Fin cfg0.N) (k l : Fin 1024) :
    iblk m c 2 t (ix2 k l) = m ((c : Thread nD τ).loc main_arg2) (ix3 0 k l) := by
  blk_simp [iblk, idx t]
  entry_read
  pointwise
  blk_ext [idx t]

theorem wo_at (c : Dev nD) (t : Fin cfg0.N) (k l : Fin 1024) :
    iblk m c 3 t (ix2 k l) = m ((c : Thread nD τ).loc main_arg3) (ix3 0 k l) := by
  blk_simp [iblk, idx t]
  entry_read
  pointwise
  blk_ext [idx t]

theorem k_at (c : Dev nD) (t : Fin cfg0.N) (a : Fin 256) (l : Fin 1024) :
    iblk m c 4 t (ix3 0 a l) = m ((c : Thread nD τ).loc main_arg4) (ix5 0 (bt t) a ⟨l.val / 256, by omega⟩ ⟨l.val % 256, by omega⟩) := by
  have hb := (idx t).2.2.2.2.2.2.2
  simp only [bt]
  blk_simp [iblk, idx t]
  entry_read
  pointwise
  blk_ext [idx t]

theorem v_at (c : Dev nD) (t : Fin cfg0.N) (a : Fin 256) (l : Fin 1024) :
    iblk m c 5 t (ix3 0 a l) = m ((c : Thread nD τ).loc main_arg5) (ix5 0 (bt t) a ⟨l.val / 256, by omega⟩ ⟨l.val % 256, by omega⟩) := by
  have hb := (idx t).2.2.2.2.2.2.2
  simp only [bt]
  blk_simp [iblk, idx t]
  entry_read
  pointwise
  blk_ext [idx t]

end Cert.Kernel2Ideal.Attn
end
end
-- ==== Proof.AttnRef.lean ====
module
public import proofs.«01_k».proof.Proof.Gen.Reference2Ideal.Read
public import proofs.«01_k».proof.Proof.AttnSpec
set_option maxRecDepth 16384
@[expose] public section
noncomputable section
open Idealize.ShloMosaic Idealize.ShloMosaic.TcCoe Idealize.SL.Sem
namespace Cert.Reference2Ideal.Attn
open Cert.Reference2Ideal Cert.Reference2Ideal.Gen Cert.Reference2Ideal.Read Cert.Attn

variable (x0 : FVec Ideal S8x2048x1024 .f32) (x1 : FVec Ideal S2x1024 .f32) (x2 x3 : FVec Ideal S2x1024x1024 .f32) (x4 x5 : FVec Ideal S2x8x256x4x256 .f32)

/-- The reference's query row of one token. -/
def Q (b : Fin 8) (t : Fin 2048) : Fin 1024 → EReal :=
  qrow (fun l => x0 (ix3 b t l)) (fun l => x1 (ix2 0 l)) (fun l k => x2 (ix3 0 l k))
/-- One prompt's memory, its heads side by side. -/
def M (x : FVec Ideal S2x8x256x4x256 .f32) (b : Fin 8) (a : Fin 256) (l : Fin 1024) : EReal :=
  x (ix5 0 b a ⟨l.val / 256, by omega⟩ ⟨l.val % 256, by omega⟩)

theorem M_col (x : FVec Ideal S2x8x256x4x256 .f32) (b : Fin 8) (a : Fin 256) (h : Fin 4) (d : Fin 256) :
    M x b a (col h d) = x (ix5 0 b a h d) := by
  have e1 : (⟨(col h d).val / 256, by omega⟩ : Fin 4) = h := Fin.ext (by simp only [col]; omega)
  have e2 : (⟨(col h d).val % 256, by omega⟩ : Fin 256) = d := Fin.ext (by simp only [col]; omega)
  simp only [M, e1, e2]

theorem q_at (b : Fin 8) (t : Fin 2048) (k : Fin 1024) :
    val_main_v17 (F := Ideal) x0 x1 x2 (ix3 b t k) = Q x0 x1 x2 b t k := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [Q, qrow]

theorem s_at (b : Fin 8) (h : Fin 4) (t : Fin 2048) (a : Fin 256) :
    val_main_v23 (F := Ideal) x0 x1 x2 x4 (ix4 b h t a) = logit (Q x0 x1 x2 b t) (M x4 b) h a := by
  pointwise [val_main_v23, val_main_v22, val_main_v21, val_main_v20, val_main_v19, val_main_v18, val_main_cst_2]
  simp only [logit, M_col]
  refine congrArg (· * _) (Finset.sum_congr rfl fun d _ => ?_)
  exact congrArg (· * x4 (ix5 0 b a h d)) (q_at x0 x1 x2 b t _)

theorem max_fold (c : EReal) (f : Fin 256 → EReal) :
    max c (Finset.fold max c f Finset.univ) = Finset.fold max c f Finset.univ :=
  max_eq_right ((Finset.le_fold_max c).2 (Or.inl le_rfl))

theorem red_at (S : FVec Ideal S8x4x2048x256 .f32) (c : FVec Ideal S_ .f32) (b : Fin 8) (h : Fin 4) (t : Fin 2048) :
    Host.reduce (s := S8x4x2048x256) (FloatOps.maximumf (F := Ideal) (φ := .f32)) S c reducesTo_S8x4x2048x256_S8x4x2048_d3 h_S_ (ix3 b h t) = Finset.fold max (c (Shape.Idx.first h_S_)) (fun a => S (ix4 b h t a)) Finset.univ := by
  pointwise

theorem r_at (b : Fin 8) (h : Fin 4) (t : Fin 2048) :
    val_main_v24 (F := Ideal) x0 x1 x2 x4 (ix3 b h t) = Finset.fold max (Ideal.ofBits .f32 4286578688#32) (logit (Q x0 x1 x2 b t) (M x4 b) h) Finset.univ := by
  refine (red_at (val_main_v23 (F := Ideal) x0 x1 x2 x4) (val_main_cst_3 (F := Ideal)) b h t).trans ?_
  rw [show (fun a => val_main_v23 (F := Ideal) x0 x1 x2 x4 (ix4 b h t a)) = logit (Q x0 x1 x2 b t) (M x4 b) h from funext (s_at x0 x1 x2 x4 b h t)]
  rfl

theorem m_at (b : Fin 8) (h : Fin 4) (t : Fin 2048) :
    val_main_v26 (F := Ideal) x0 x1 x2 x4 (ix3 b h t) = Finset.fold max (Ideal.ofBits .f32 4286578688#32) (logit (Q x0 x1 x2 b t) (M x4 b) h) Finset.univ := by
  rw [val_main_v26_apply, r_at, val_main_v25_apply, val_main_cst_4_apply]
  generalize hy : Finset.fold max (Ideal.ofBits .f32 4286578688#32) (logit (Q x0 x1 x2 b t) (M x4 b) h) Finset.univ = y
  have e := max_fold (Ideal.ofBits .f32 4286578688#32) (logit (Q x0 x1 x2 b t) (M x4 b) h)
  rw [hy] at e
  exact e

theorem e_at (b : Fin 8) (h : Fin 4) (t : Fin 2048) (a : Fin 256) :
    val_main_v30 (F := Ideal) x0 x1 x2 x4 (ix4 b h t a)
      = Ideal.exp (logit (Q x0 x1 x2 b t) (M x4 b) h a - Finset.fold max (Ideal.ofBits .f32 4286578688#32) (logit (Q x0 x1 x2 b t) (M x4 b) h) Finset.univ) := by
  pointwise [val_main_v30, val_main_v29, val_main_v28, val_main_v27]
  rw [s_at, m_at]

theorem p_at (b : Fin 8) (h : Fin 4) (t : Fin 2048) (a : Fin 256) :
    val_main_v34 (F := Ideal) x0 x1 x2 x4 (ix4 b h t a) = prob (logit (Q x0 x1 x2 b t) (M x4 b) h) a := by
  pointwise [val_main_v34, val_main_v33, val_main_v32, val_main_v31, val_main_cst_5]
  simp only [e_at, prob]

theorem h_at (b : Fin 8) (h : Fin 4) (t : Fin 2048) (d : Fin 256) :
    val_main_v38 (F := Ideal) x0 x1 x2 x4 x5 (ix4 b t h d) = head (Q x0 x1 x2 b t) (M x4 b) (M x5 b) h d := by
  pointwise [val_main_v38, val_main_v37, val_main_v36, val_main_v35]
  simp only [head]
  refine Finset.sum_congr rfl fun a _ => ?_
  rw [p_at, mul_comm]
  exact congrArg (_ * ·) (M_col x5 b a h d).symm

/-- The reference's result at an index is the attention of that token. -/
theorem out_at (b : Fin 8) (t : Fin 2048) (j : Fin 1024) :
    val_main_v43 (F := Ideal) x0 x1 x2 x3 x4 x5 (ix3 b t j)
      = out (fun l => x0 (ix3 b t l)) (fun l => x1 (ix2 0 l)) (fun l k => x2 (ix3 0 l k)) (fun l k => x3 (ix3 0 l k)) (M x4 b) (M x5 b) j := by
  pointwise [val_main_v43, val_main_v42, val_main_v41, val_main_v40, val_main_v39]
  refine congrArg (x0 (ix3 b t j) + ·) ?_
  rw [Fin.sum_univ_tiles 4 256 rfl]
  refine Finset.sum_congr rfl fun h _ => Finset.sum_congr rfl fun d _ => ?_
  refine congrArg (· * _) (Eq.trans ?_ (h_at x0 x1 x2 x4 x5 b h t d))
  have e1 : (⟨(h.val * 256 + d.val) / 256, by omega⟩ : Fin 4) = h := Fin.ext (by simp only []; omega)
  have e2 : (⟨(h.val * 256 + d.val) % 256, by omega⟩ : Fin 256) = d := Fin.ext (by simp only []; omega)
  simp only [e1, e2]
end Cert.Reference2Ideal.Attn
end
end
-- ==== Proof.AttnPoint.lean ====
module
public import proofs.«01_k».proof.Proof.AttnBlock
public import proofs.«01_k».proof.Proof.AttnRef
set_option maxRecDepth 16384
@[expose] public section
noncomputable section
open Idealize.ShloMosaic Idealize.ShloMosaic.TcCoe Idealize.SL.Sem
open Idealize.ShloMosaic.Pipeline (Dat)
namespace Cert.Kernel2Ideal.Attn
open Cert.Kernel2Ideal Cert.Kernel2Ideal.Gen Cert.Attn
variable (m : (ℓ : Loc nD τ sig) → Buf (Elt Ideal) ℓ)

/-- The block's payload from the staged blocks. -/
theorem blk_at (x : FVec Ideal S1x512x1024 .f32) (g : FVec Ideal S1x1024 .f32) (wq wo : FVec Ideal S1024x1024 .bf16)
    (k v : FVec Ideal S1x256x1024 .f32) (r : Fin 512) (j : Fin 1024) :
    k0_pay1 (F := Ideal) (k0_pay2 x) (k0_pay5 v) (k0_pay7 (k0_pay5 v) (k0_pay6 x g wq k)) (k0_pay8 (k0_pay3 x g wq) (k0_pay4 k) (k0_pay5 v))
      (k0_pay9 (k0_pay3 x g wq) (k0_pay4 k) (k0_pay5 v)) (k0_pay10 (k0_pay3 x g wq) (k0_pay4 k)) wo (ix3 0 r j)
      = out (fun l => x (ix3 0 r l)) (fun l => g (ix2 0 l)) (fun l k => wq (ix2 l k)) (fun l k => wo (ix2 l k)) (fun a l => k (ix3 0 a l)) (fun a l => v (ix3 0 a l)) j := by
  have eK : (fun a l => k0_pay4 (F := Ideal) k (ix2 a l)) = fun a l => k (ix3 0 a l) := funext fun a => funext fun l => k_at' k a l
  have eV : (fun a l => k0_pay5 (F := Ideal) v (ix2 a l)) = fun a l => v (ix3 0 a l) := funext fun a => funext fun l => v_at' v a l
  have eQ : (fun l => k0_pay3 (F := Ideal) x g wq (ix2 r l)) = qrow (fun l => x (ix3 0 r l)) (fun l => g (ix2 0 l)) (fun l k => wq (ix2 l k)) :=
    funext fun l => q_at x g wq r l
  rw [pay6_eq, pay_eq]
  generalize k0_pay4 (F := Ideal) k = kk at *
  generalize k0_pay5 (F := Ideal) v = vv at *
  generalize k0_pay3 (F := Ideal) x g wq = qq at *
  refine (tail_at _ _ _ _ _ wo r j (head (fun l => qq (ix2 r l)) (fun a l => kk (ix2 a l)) (fun a l => vv (ix2 a l)))
    (h0_at qq kk vv r) (h1_at qq kk vv r) (h2_at qq kk vv r) (h3_at qq kk vv r)).trans ?_
  rw [eK, eV, eQ]
  refine congrArg₂ (· + ·) ?_ rfl
  pointwise [k0_pay2]

/-- The layer's result array: the attention of every token of every prompt. -/
def G (c : Dev nD) : FVec Ideal S8x2048x1024 .f32 :=
  Cert.Reference2Ideal.Read.val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- What a grid point leaves in its block is the attention of the block's tokens. -/
theorem point (c : Dev nD) (t : Fin cfg0.N) (r : Fin 512) (j : Fin 1024) :
    out0_6 (F := Ideal) (iblk m c 0 t) (iblk m c 1 t) (iblk m c 2 t) (iblk m c 3 t) (iblk m c 4 t) (iblk m c 5 t) (ix3 0 r j) = G m c (ix3 (bt t) (row t r) j) := by
  unfold_out out0_6
  frame_out
  refine (blk_at _ _ _ _ _ _ r j).trans ?_
  refine Eq.trans ?_ (Cert.Reference2Ideal.Attn.out_at _ _ _ _ _ _ (bt t) (row t r) j).symm
  exact out_congr (funext fun l => x_at m c t r l) (funext fun l => g_at m c t l) (funext fun l => funext fun k => wq_at m c t l k) (funext fun l => funext fun k => wo_at m c t l k)
    (funext fun a => funext fun l => k_at m c t a l) (funext fun a => funext fun l => v_at m c t a l) j

/-- The result array after the run. -/
theorem final (c : Dev nD) : (dats m 0 c).arrAt 6 (cfgs 0).N = G m c := by
  refine (dats m 0 c).arrAt_eq_of_covers 6 _ (by decide +kernel) fun t _ y => ?_
  blk_simp
  rw [after0_6]
  idx_vars y
  obtain rfl : y0 = 0 := Subsingleton.elim _ _
  refine (point m c t y1 y2).trans (congrArg (G m c) ?_)
  simp only [bt, row]
  blk_ext [idx t]
end Cert.Kernel2Ideal.Attn
end
end
-- ==== Proof.FfnPay.lean ====
module
public import proofs.«01_k».proof.Proof.Gen.Kernel3Ideal.Skeleton
public import proofs.«01_k».proof.Proof.SwiSpec
set_option maxRecDepth 16384
@[expose] public section
noncomputable section
open Idealize.ShloMosaic Idealize.ShloMosaic.TcCoe Idealize.SL.Sem
namespace Cert.Kernel3Ideal.Ffn
open Cert.Kernel3Ideal Cert.Kernel3Ideal.Gen Cert.Swi

theorem xn_at (x : FVec Ideal S512x1024 .f32) (g : FVec Ideal S1x1024 .f32) (r : Fin 512) (l : Fin 1024) :
    k0_pay1 (F := Ideal) x g (ix2 r l) = nrm (fun l => x (ix2 r l)) (fun l => g (ix2 0 l)) l := by
  pointwise [k0_pay1]
  rfl

theorem zero_acc (r : Fin 512) (j : Fin 1024) : k0_pay2 (F := Ideal) (ix2 r j) = 0 := by pointwise [k0_pay2]

theorem acc_at (xn : FVec Ideal S512x1024 .bf16) (wg wu : FVec Ideal S1024x256 .bf16) (p : FVec Ideal S512x1024 .f32) (wd : FVec Ideal S256x1024 .bf16) (r : Fin 512) (j : Fin 1024) :
    k0_pay3 (F := Ideal) xn wg wu p wd (ix2 r j) = p (ix2 r j) + ∑ k : Fin 256, act (∑ l, xn (ix2 r l) * wg (ix2 l k)) (∑ l, xn (ix2 r l) * wu (ix2 l k)) * wd (ix2 k j) := by
  pointwise [k0_pay3]
  simp only [act, zero_sub]

theorem out_at (x a : FVec Ideal S512x1024 .f32) (r : Fin 512) (j : Fin 1024) :
    k0_pay4 (F := Ideal) x a (ix2 r j) = x (ix2 r j) + a (ix2 r j) := by pointwise [k0_pay4]
end Cert.Kernel3Ideal.Ffn
end
end
-- ==== Proof.FfnSpec.lean ====
module
public import proofs.«01_k».proof.Proof.SwiSpec
set_option maxRecDepth 16384
@[expose] public section
noncomputable section
open Idealize.ShloMosaic
namespace Cert.Ffn
open Cert.Swi

/-- One unit of the hidden layer for a normalised row. -/
def hid (xn : Fin 1024 → EReal) (wg wu : Fin 1024 → Fin 2816 → EReal) (q : Fin 2816) : EReal :=
  act (∑ l, xn l * wg l q) (∑ l, xn l * wu l q)

/-- The layer's product for a normalised row, at a column. -/
def down (xn : Fin 1024 → EReal) (wg wu : Fin 1024 → Fin 2816 → EReal) (wd : Fin 2816 → Fin 1024 → EReal) (j : Fin 1024) : EReal :=
  ∑ q, hid xn wg wu q * wd q j

/-- The part of the product that one tile of the hidden units gives. -/
def part (xn : Fin 1024 → EReal) (wg wu : Fin 1024 → Fin 2816 → EReal) (wd : Fin 2816 → Fin 1024 → EReal) (j : Fin 1024) (f : ℕ) : EReal :=
  if h : f < 11 then ∑ k : Fin 256, hid xn wg wu ⟨f * 256 + k.val, by omega⟩ * wd ⟨f * 256 + k.val, by omega⟩ j else 0

theorem part_sum (xn : Fin 1024 → EReal) (wg wu : Fin 1024 → Fin 2816 → EReal) (wd : Fin 2816 → Fin 1024 → EReal) (j : Fin 1024) :
    ∑ f ∈ Finset.range 11, part xn wg wu wd j f = down xn wg wu wd j := by
  rw [Finset.sum_range, down, Fin.sum_univ_tiles 11 256 rfl]
  refine Finset.sum_congr rfl fun f _ => ?_
  rw [part, dif_pos f.isLt]

/-- The layer's output for one row: the residual and the product. -/
def out (x g : Fin 1024 → EReal) (wg wu : Fin 1024 → Fin 2816 → EReal) (wd : Fin 2816 → Fin 1024 → EReal) (j : Fin 1024) : EReal :=
  x j + down (nrm x g) wg wu wd j

end Cert.Ffn
end
end
-- ==== Proof.FfnRef.lean ====
module
public import proofs.«01_k».proof.Proof.Gen.Reference3Ideal.Read
public import proofs.«01_k».proof.Proof.FfnSpec
set_option maxRecDepth 16384
@[expose] public section
noncomputable section
open Idealize.ShloMosaic Idealize.ShloMosaic.TcCoe Idealize.SL.Sem
namespace Cert.Reference3Ideal.Ffn
open Cert.Reference3Ideal Cert.Reference3Ideal.Gen Cert.Reference3Ideal.Read Cert.Ffn Cert.Swi

variable (x0 : FVec Ideal S16384x1024 .f32) (x1 : FVec Ideal S2x1024 .f32) (x2 x3 : FVec Ideal S1x1024x2816 .f32) (x4 : FVec Ideal S1x2816x1024 .f32)

/-- A token's normalised row. -/
def XN (t : Fin 16384) : Fin 1024 → EReal := nrm (fun l => x0 (ix2 t l)) (fun l => x1 (ix2 0 l))

theorem xn_at (t : Fin 16384) (l : Fin 1024) : val_main_v14 (F := Ideal) x0 x1 (ix2 t l) = XN x0 x1 t l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem gate_at (t : Fin 16384) (q : Fin 2816) : val_main_v16 (F := Ideal) x0 x1 x2 (ix2 t q) = ∑ l, XN x0 x1 t l * x2 (ix3 0 l q) := by
  pointwise [val_main_v16, val_main_v15]
  simp only [xn_at]
theorem up_at (t : Fin 16384) (q : Fin 2816) : val_main_v19 (F := Ideal) x0 x1 x3 (ix2 t q) = ∑ l, XN x0 x1 t l * x3 (ix3 0 l q) := by
  pointwise [val_main_v19, val_main_v18]
  simp only [xn_at]
theorem hid_at (t : Fin 16384) (q : Fin 2816) : val_main_v20 (F := Ideal) x0 x1 x2 x3 (ix2 t q) = hid (XN x0 x1 t) (fun l q => x2 (ix3 0 l q)) (fun l q => x3 (ix3 0 l q)) q := by
  pointwise [val_main_v20, val_main_v17, val_main_call0_v5, val_main_call0_v4, val_main_call0_v3, val_main_call0_v2, val_main_call0_v1, val_main_call0_v0, val_main_call0_cst, val_main_call0_cst_0]
  rw [gate_at, up_at]
  rfl

/-- The reference's result at an index is the layer's output of that token. -/
theorem out_at (t : Fin 16384) (j : Fin 1024) :
    val_main_v23 (F := Ideal) x0 x1 x2 x3 x4 (ix2 t j)
      = out (fun l => x0 (ix2 t l)) (fun l => x1 (ix2 0 l)) (fun l q => x2 (ix3 0 l q)) (fun l q => x3 (ix3 0 l q)) (fun q j => x4 (ix3 0 q j)) j := by
  pointwise [val_main_v23, val_main_v22, val_main_v21]
  simp only [hid_at, out, down, XN]
end Cert.Reference3Ideal.Ffn
end
end
-- ==== Proof.FfnPoint.lean ====
module
public import proofs.«01_k».proof.Proof.Gen.Kernel3Ideal.Frame
public import Idealize.ShloMosaic.Lib.Pipeline.ValueKit
public import Idealize.ShloMosaic.Lib.Claim
public import Idealize.ShloMosaic.Lib.Pipeline.ReadBack
public import proofs.«01_k».proof.Proof.FfnPay
public import proofs.«01_k».proof.Proof.FfnRef
set_option maxRecDepth 16384
@[expose] public section
noncomputable section
open Idealize.ShloMosaic Idealize.ShloMosaic.TcCoe Idealize.SL.Sem
open Idealize.ShloMosaic.Pipeline (Dat)
namespace Cert.Kernel3Ideal.Ffn
open Cert.Kernel3Ideal Cert.Kernel3Ideal.Gen Cert.Ffn
variable (m : (ℓ : Loc nD τ sig) → Buf (Elt Ideal) ℓ)

theorem idx : ∀ t : Fin cfg0.N, win0_0.index t = ![t.val / 11, 0] ∧ win0_1.index t = ![0, 0] ∧ win0_2.index t = ![0, t.val % 11] ∧ win0_3.index t = ![0, t.val % 11] ∧ win0_4.index t = ![t.val % 11, 0] ∧ win0_5.index t = ![t.val / 11, 0] ∧ t.val / 11 < 32 :=
  (by decide +kernel : ∀ t : Fin grid0.N, _)

/-- The row of the whole array that a block's row is. -/
def row (t : Fin cfg0.N) (r : Fin 512) : Fin 16384 := ⟨t.val / 11 * 512 + r.val, by have := (idx t).2.2.2.2.2.2; omega⟩
/-- The hidden unit of a tile's lane. -/
def unit (t : Fin cfg0.N) (k : Fin 256) : Fin 2816 := ⟨t.val % 11 * 256 + k.val, by omega⟩

theorem x_at (c : Dev nD) (t : Fin cfg0.N) (r : Fin 512) (l : Fin 1024) :
    iblk m c 0 t (ix2 r l) = m ((c : Thread nD τ).loc main_arg0) (ix2 (row t r) l) := by
  simp only [row]
  blk_ext [iblk, V_main_arg0, idx t]

theorem g_at (c : Dev nD) (t : Fin cfg0.N) (l : Fin 1024) :
    iblk m c 1 t (ix2 0 l) = m ((c : Thread nD τ).loc main_arg1) (ix2 0 l) := by
  blk_simp [iblk, idx t]
  entry_read
  pointwise
  blk_ext [idx t]

theorem wg_at (c : Dev nD) (t : Fin cfg0.N) (l : Fin 1024) (k : Fin 256) :
    iblk m c 2 t (ix2 l k) = m ((c : Thread nD τ).loc main_arg2) (ix3 0 l (unit t k)) := by
  simp only [unit]
  blk_simp [iblk, idx t]
  entry_read
  pointwise
  blk_ext [idx t]

theorem wu_at (c : Dev nD) (t : Fin cfg0.N) (l : Fin 1024) (k : Fin 256) :
    iblk m c 3 t (ix2 l k) = m ((c : Thread nD τ).loc main_arg3) (ix3 0 l (unit t k)) := by
  simp only [unit]
  blk_simp [iblk, idx t]
  entry_read
  pointwise
  blk_ext [idx t]

theorem wd_at (c : Dev nD) (t : Fin cfg0.N) (k : Fin 256) (j : Fin 1024) :
    iblk m c 4 t (ix2 k j) = m ((c : Thread nD τ).loc main_arg4) (ix3 0 (unit t k) j) := by
  simp only [unit]
  blk_simp [iblk, idx t]
  entry_read
  pointwise
  blk_ext [idx t]

/-- What the point before left. -/
def prev (c : Dev nD) (t : Fin cfg0.N) := outsAt0 m c (t.val - 1) (Nat.lt_of_le_of_lt (Nat.sub_le _ _) t.isLt)

theorem xnA (c : Dev nD) (t : Fin cfg0.N) (h : t.val % 11 = 0) :
    (outsAt0 m c t.val t.isLt).2.1 = k0_pay1 (iblk m c 0 t) (iblk m c 1 t) := by
  rw [outsAt0_A m c t h (by omega)]
  frame_out
theorem xnN (c : Dev nD) (t : Fin cfg0.N) (h : ¬ t.val % 11 = 0) :
    (outsAt0 m c t.val t.isLt).2.1 = (prev m c t).2.1 := by
  by_cases h2 : t.val % 11 = 10
  · rw [outsAt0_C m c t h h2]; frame_out; rfl
  · rw [outsAt0_B m c t h h2]; frame_out; rfl
theorem accZ (c : Dev nD) (t : Fin cfg0.N) (h : t.val % 11 = 0) :
    (outsAt0 m c t.val t.isLt).2.2 = k0_pay3 (outsAt0 m c t.val t.isLt).2.1 (iblk m c 2 t) (iblk m c 3 t) (k0_pay2 (F := Ideal)) (iblk m c 4 t) := by
  rw [xnA m c t h, outsAt0_A m c t h (by omega)]
  frame_out
theorem accN (c : Dev nD) (t : Fin cfg0.N) (h : ¬ t.val % 11 = 0) :
    (outsAt0 m c t.val t.isLt).2.2 = k0_pay3 (outsAt0 m c t.val t.isLt).2.1 (iblk m c 2 t) (iblk m c 3 t) (prev m c t).2.2 (iblk m c 4 t) := by
  rw [xnN m c t h]
  by_cases h2 : t.val % 11 = 10
  · rw [outsAt0_C m c t h h2]; frame_out; simp only [read_unread_whole, prev]
  · rw [outsAt0_B m c t h h2]; frame_out; simp only [read_unread_whole, prev]
theorem outL (c : Dev nD) (t : Fin cfg0.N) (h2 : t.val % 11 = 10) :
    (outsAt0 m c t.val t.isLt).1 = k0_pay4 (iblk m c 0 t) (outsAt0 m c t.val t.isLt).2.2 := by
  have h : ¬ t.val % 11 = 0 := by omega
  rw [accN m c t h, xnN m c t h, outsAt0_C m c t h h2]; frame_out; simp only [read_unread_whole, prev]

/-- The arrays of the call, read by row. -/
def X (c : Dev nD) (R : Fin 16384) (l : Fin 1024) : EReal := m ((c : Thread nD τ).loc main_arg0) (ix2 R l)
def N (c : Dev nD) (l : Fin 1024) : EReal := m ((c : Thread nD τ).loc main_arg1) (ix2 0 l)
def Wg (c : Dev nD) (l : Fin 1024) (q : Fin 2816) : EReal := m ((c : Thread nD τ).loc main_arg2) (ix3 0 l q)
def Wu (c : Dev nD) (l : Fin 1024) (q : Fin 2816) : EReal := m ((c : Thread nD τ).loc main_arg3) (ix3 0 l q)
def Wd (c : Dev nD) (q : Fin 2816) (j : Fin 1024) : EReal := m ((c : Thread nD τ).loc main_arg4) (ix3 0 q j)
/-- A row of the call, normalised. -/
def Xn (c : Dev nD) (R : Fin 16384) : Fin 1024 → EReal := Cert.Swi.nrm (X m c R) (N m c)

/-- What the scratches hold after a grid point: the tile's normalised rows and the product so far. -/
structure State (c : Dev nD) (t : Fin cfg0.N) : Prop where
  xn : ∀ r l, (outsAt0 m c t.val t.isLt).2.1 (ix2 r l) = Xn m c (row t r) l
  acc : ∀ r j, (outsAt0 m c t.val t.isLt).2.2 (ix2 r j) = ∑ f ∈ Finset.range (t.val % 11 + 1), part (Xn m c (row t r)) (Wg m c) (Wu m c) (Wd m c) j f

/-- A tile's product as the spec's part. -/
theorem tile (c : Dev nD) (t : Fin cfg0.N) (xn : FVec Ideal S512x1024 .bf16) (p : FVec Ideal S512x1024 .f32) (r : Fin 512) (j : Fin 1024)
    (h : ∀ l, xn (ix2 r l) = Xn m c (row t r) l) :
    k0_pay3 (F := Ideal) xn (iblk m c 2 t) (iblk m c 3 t) p (iblk m c 4 t) (ix2 r j)
      = p (ix2 r j) + part (Xn m c (row t r)) (Wg m c) (Wu m c) (Wd m c) j (t.val % 11) := by
  refine (acc_at xn (iblk m c 2 t) (iblk m c 3 t) p (iblk m c 4 t) r j).trans (congrArg (p (ix2 r j) + ·) ?_)
  rw [part, dif_pos (Nat.mod_lt _ (by omega))]
  refine Finset.sum_congr rfl fun k _ => ?_
  exact congrArg₂ (· * ·) (congrArg₂ Cert.Swi.act (Finset.sum_congr rfl fun l _ => congrArg₂ (· * ·) (h l) (wg_at m c t l k))
    (Finset.sum_congr rfl fun l _ => congrArg₂ (· * ·) (h l) (wu_at m c t l k))) (wd_at m c t k j)

theorem xnZ (c : Dev nD) (t : Fin cfg0.N) (h0 : t.val % 11 = 0) (r : Fin 512) (l : Fin 1024) :
    (outsAt0 m c t.val t.isLt).2.1 (ix2 r l) = Xn m c (row t r) l := by
  rw [xnA m c t h0]
  refine (xn_at _ _ r l).trans ?_
  exact congrArg₂ (fun a b => Cert.Swi.nrm a b l) (funext fun l => x_at m c t r l) (funext fun l => g_at m c t l)

/-- The first point of a tile. -/
theorem stateZ (c : Dev nD) (t : Fin cfg0.N) (h0 : t.val % 11 = 0) : State m c t := by
  refine ⟨xnZ m c t h0, fun r j => ?_⟩
  rw [accZ m c t h0]
  refine (tile m c t _ _ r j (xnZ m c t h0 r)).trans ?_
  rw [zero_acc, zero_add, h0]
  exact (Finset.sum_range_one _).symm

theorem state (c : Dev nD) : ∀ n (hn : n < cfg0.N), State m c ⟨n, hn⟩ := by
  intro n
  induction n with
  | zero => exact fun hn => stateZ m c ⟨0, hn⟩ rfl
  | succ n ih =>
    intro hn
    have hN : n + 1 < 352 := hn
    have S := ih (by omega)
    generalize ht : (⟨n + 1, hn⟩ : Fin cfg0.N) = t
    have hv : t.val = n + 1 := by rw [← ht]
    have hp : prev m c t = outsAt0 m c n (by omega) := by subst ht; rfl
    by_cases h0 : t.val % 11 = 0
    · exact stateZ m c t h0
    have hx : ∀ r l, (outsAt0 m c t.val t.isLt).2.1 (ix2 r l) = Xn m c (row t r) l := by
      intro r l
      rw [xnN m c t h0, hp]
      refine (S.xn r l).trans (congrArg (fun R => Xn m c R l) (Fin.ext ?_))
      simp only [row]
      omega
    refine ⟨hx, fun r j => ?_⟩
    rw [accN m c t h0]
    refine (tile m c t _ _ r j (hx r)).trans ?_
    rw [Finset.sum_range_succ]
    refine congrArg (· + _) ?_
    rw [hp]
    refine (S.acc r j).trans ?_
    have e1 : row ⟨n, by omega⟩ r = row t r := Fin.ext (by simp only [row]; omega)
    have e3 : n % 11 + 1 = t.val % 11 := by omega
    rw [e1]
    exact Finset.sum_congr (congrArg Finset.range e3) fun _ _ => rfl

/-- The layer's result array: the feed-forward of every token. -/
def G (c : Dev nD) : FVec Ideal S16384x1024 .f32 :=
  Cert.Reference3Ideal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a tile's last grid point leaves in its block is the layer's output of the tile's tokens. -/
theorem point (c : Dev nD) (t : Fin cfg0.N) (h : t.val % 11 = 10) (r : Fin 512) (j : Fin 1024) :
    (outsAt0 m c t.val t.isLt).1 (ix2 r j) = G m c (ix2 (row t r) j) := by
  rw [outL m c t h]
  refine (out_at (iblk m c 0 t) _ r j).trans ?_
  rw [(state m c t.val t.isLt).acc r j, x_at, h, part_sum]
  exact (Cert.Reference3Ideal.Ffn.out_at _ _ _ _ _ (row t r) j).symm

/-- The result array after the run. -/
theorem final (c : Dev nD) : (dats m 0 c).arrAt 5 (cfgs 0).N = G m c := by
  refine (dats m 0 c).arrAt_eq_of_covers 5 _ (by decide +kernel) fun t hf y => ?_
  blk_simp
  rw [after0_5]
  idx_vars y
  refine (point m c t ((flush0_5 t).mp hf) y0 y1).trans (congrArg (G m c) ?_)
  simp only [row]
  blk_ext [idx t]
end Cert.Kernel3Ideal.Ffn
end
end
-- ==== Proof.MemRun.lean ====
module
public import proofs.«01_k».proof.Proof.Gen.Kernel4Ideal.Frame
public import Idealize.ShloMosaic.Lib.Pipeline.ValueKit
public import Idealize.ShloMosaic.Lib.Claim
set_option maxRecDepth 16384
@[expose] public section
noncomputable section

/-! The launch of the memory's keys and values, with what its two results end at: the generated frame's launch
    over the segments, its last contents read at the results too. -/
namespace Cert.Kernel4Ideal.Mem
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- After the run the results hold the last contents and the arguments what they held. -/
theorem run : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v34 (by decide)), h c _ (mem_uc main_v38 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
end Cert.Kernel4Ideal.Mem
end
end
-- ==== Proof.MemRef.lean ====
module
public import proofs.«01_k».proof.Proof.Gen.Reference4Ideal.Read
public import proofs.«01_k».proof.Proof.SwiSpec
set_option maxRecDepth 16384
@[expose] public section
noncomputable section
open Idealize.ShloMosaic Idealize.ShloMosaic.TcCoe Idealize.SL.Sem

/-! The reference's keys and values of the memory at an index. -/
namespace Cert.Mem
/-- A projection of a memory token's normalised row, one lane of one layer. -/
def proj (x g w : Fin 1024 → EReal) : EReal := ∑ l, Cert.Swi.nrm x g l * w l
end Cert.Mem

namespace Cert.Reference4Ideal.Mem
open Cert.Reference4Ideal Cert.Reference4Ideal.Gen Cert.Reference4Ideal.Read Cert.Swi Cert.Mem

variable (x0 : FVec Ideal S8x256x1024 .f32) (x1 : FVec Ideal S2x1024 .f32) (x2 x3 : FVec Ideal S2x1024x1024 .f32)

theorem xn0 (b : Fin 8) (s : Fin 256) (l : Fin 1024) :
    val_main_v14 (F := Ideal) x0 x1 (ix3 b s l) = nrm (fun l => x0 (ix3 b s l)) (fun l => x1 (ix2 0 l)) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem xn1 (b : Fin 8) (s : Fin 256) (l : Fin 1024) :
    val_main_v37 (F := Ideal) x0 x1 (ix3 b s l) = nrm (fun l => x0 (ix3 b s l)) (fun l => x1 (ix2 1 l)) l := by
  pointwise [val_main_v37, val_main_v36, val_main_v35, val_main_v34, val_main_v33, val_main_v32, val_main_v31, val_main_v30, val_main_v29, val_main_v28, val_main_v27, val_main_v26, val_main_v25, val_main_v24, val_main_v23, val_main_cst_2, val_main_cst_3, val_main_cst_4]
  rfl
theorem k0 (b : Fin 8) (s : Fin 256) (k : Fin 1024) :
    val_main_v17 (F := Ideal) x0 x1 x2 (ix3 b s k) = proj (fun l => x0 (ix3 b s l)) (fun l => x1 (ix2 0 l)) (fun l => x2 (ix3 0 l k)) := by
  pointwise [val_main_v17, val_main_v16, val_main_v15]
  simp only [xn0, proj]
theorem v0 (b : Fin 8) (s : Fin 256) (k : Fin 1024) :
    val_main_v21 (F := Ideal) x0 x1 x3 (ix3 b s k) = proj (fun l => x0 (ix3 b s l)) (fun l => x1 (ix2 0 l)) (fun l => x3 (ix3 0 l k)) := by
  pointwise [val_main_v21, val_main_v20, val_main_v19]
  simp only [xn0, proj]
theorem k1 (b : Fin 8) (s : Fin 256) (k : Fin 1024) :
    val_main_v40 (F := Ideal) x0 x1 x2 (ix3 b s k) = proj (fun l => x0 (ix3 b s l)) (fun l => x1 (ix2 1 l)) (fun l => x2 (ix3 1 l k)) := by
  pointwise [val_main_v40, val_main_v39, val_main_v38]
  simp only [xn1, proj]
theorem v1 (b : Fin 8) (s : Fin 256) (k : Fin 1024) :
    val_main_v44 (F := Ideal) x0 x1 x3 (ix3 b s k) = proj (fun l => x0 (ix3 b s l)) (fun l => x1 (ix2 1 l)) (fun l => x3 (ix3 1 l k)) := by
  pointwise [val_main_v44, val_main_v43, val_main_v42]
  simp only [xn1, proj]

/-- The keys at an index. -/
theorem keys (a : Fin 2) (b : Fin 8) (s : Fin 256) (h : Fin 4) (d : Fin 256) :
    val_main_v48 (F := Ideal) x0 x1 x2 (ix5 a b s h d)
      = proj (fun l => x0 (ix3 b s l)) (fun l => x1 (ix2 a l)) (fun l => x2 (ix3 a l ⟨h.val * 256 + d.val, by omega⟩)) := by
  pointwise [val_main_v48, val_main_v47, val_main_v46, val_main_v41, val_main_v18]
  rw [k0, k1]
  split
  · rw [show a = 0 from by omega]
  · rw [show a = 1 from by omega]
/-- The values at an index. -/
theorem vals (a : Fin 2) (b : Fin 8) (s : Fin 256) (h : Fin 4) (d : Fin 256) :
    val_main_v51 (F := Ideal) x0 x1 x3 (ix5 a b s h d)
      = proj (fun l => x0 (ix3 b s l)) (fun l => x1 (ix2 a l)) (fun l => x3 (ix3 a l ⟨h.val * 256 + d.val, by omega⟩)) := by
  pointwise [val_main_v51, val_main_v50, val_main_v49, val_main_v45, val_main_v22]
  rw [v0, v1]
  split
  · rw [show a = 0 from by omega]
  · rw [show a = 1 from by omega]
end Cert.Reference4Ideal.Mem
end
end
-- ==== Proof.MemPoint.lean ====
module
public import proofs.«01_k».proof.Proof.Gen.Kernel4Ideal.Frame
public import Idealize.ShloMosaic.Lib.Pipeline.ValueKit
public import Idealize.ShloMosaic.Lib.Claim
public import Idealize.ShloMosaic.Lib.Pipeline.ReadBack
public import proofs.«01_k».proof.Proof.MemRun
public import proofs.«01_k».proof.Proof.MemRef
set_option maxRecDepth 16384
@[expose] public section
noncomputable section
open Idealize.ShloMosaic Idealize.ShloMosaic.TcCoe Idealize.SL.Sem
open Idealize.ShloMosaic.Pipeline (Dat)
namespace Cert.Kernel4Ideal.Mem
open Cert.Kernel4Ideal Cert.Kernel4Ideal.Gen Cert.Mem
variable (m : (ℓ : Loc nD τ sig) → Buf (Elt Ideal) ℓ) (ρ : Dev nD → PrngReg)

theorem pay0 (x : FVec Ideal S512x1024 .f32) (g : FVec Ideal S1x1024 .f32) (w : FVec Ideal S1024x2048 .bf16) (r : Fin 512) (k : Fin 2048) :
    k0_pay1 (F := Ideal) x g w (ix2 r k) = proj (fun l => x (ix2 r l)) (fun l => g (ix2 0 l)) (fun l => w (ix2 l k)) := by
  pointwise [k0_pay1]
  rfl
theorem pay1 (x : FVec Ideal S512x1024 .f32) (g : FVec Ideal S1x1024 .f32) (w : FVec Ideal S1024x2048 .bf16) (r : Fin 512) (k : Fin 2048) :
    k1_pay1 (F := Ideal) x g w (ix2 r k) = proj (fun l => x (ix2 r l)) (fun l => g (ix2 0 l)) (fun l => w (ix2 l k)) := by
  pointwise [k1_pay1]
  rfl

theorem idx0 : ∀ t : Fin cfg0.N, win0_0.index t = ![t.val, 0] ∧ win0_1.index t = ![0, 0] ∧ win0_2.index t = ![0, 0] ∧ win0_3.index t = ![t.val, 0] ∧ t.val < 4 :=
  (by decide +kernel : ∀ t : Fin grid0.N, _)
theorem idx1 : ∀ t : Fin cfg1.N, win1_0.index t = ![t.val, 0] ∧ win1_1.index t = ![0, 0] ∧ win1_2.index t = ![0, 0] ∧ win1_3.index t = ![t.val, 0] ∧ t.val < 4 :=
  (by decide +kernel : ∀ t : Fin grid1.N, _)

/-- The arrays of the call, read by token, layer and lane; keys' lanes come before values' in the joined weights. -/
def X (c : Dev nD) (R : Fin 2048) (l : Fin 1024) : EReal :=
  m ((c : Thread nD τ).loc main_arg0) (ix3 ⟨R.val / 256, by omega⟩ ⟨R.val % 256, by omega⟩ l)
def N (c : Dev nD) (a : Fin 2) (l : Fin 1024) : EReal := m ((c : Thread nD τ).loc main_arg1) (ix2 a l)
def W (c : Dev nD) (a : Fin 2) (l : Fin 1024) (k : Fin 2048) : EReal :=
  if h : k.val < 1024 then m ((c : Thread nD τ).loc main_arg2) (ix3 a l ⟨k.val, h⟩)
  else m ((c : Thread nD τ).loc main_arg3) (ix3 a l ⟨k.val - 1024, by omega⟩)

theorem A0_x (c : Dev nD) (R : Fin 2048) (l : Fin 1024) :
    W1 m ρ c (Proc.devRef .tc main_v0) (ix2 R l) = X m c R l := by
  unfold X
  simp only [W1]
  after_results
  pointwise
theorem A0_w (c : Dev nD) (l : Fin 1024) (k : Fin 2048) :
    W1 m ρ c (Proc.devRef .tc main_v7) (ix2 l k) = W m c 0 l k := by
  unfold W
  simp only [W1]
  after_results
  pointwise
theorem A0_g (c : Dev nD) (l : Fin 1024) :
    W1 m ρ c (Proc.devRef .tc main_v10) (ix2 0 l) = N m c 0 l := by
  unfold N
  simp only [W1]
  after_results
  pointwise

theorem A1_x (c : Dev nD) (R : Fin 2048) (l : Fin 1024) :
    W3 m ρ c (Proc.devRef .tc main_v0) (ix2 R l) = X m c R l := by
  rw [W3_of m ρ c main_v0 (by decide), W2_of m ρ c main_v0 (by decide)]
  exact A0_x m ρ c R l
theorem h1_w (V : Valuation τ sig (Elt Ideal)) (l : Fin 1024) (k : Fin 2048) :
    StableHlo.after hostOps1 V (Proc.devRef .tc main_v22) (ix2 l k)
      = if h : k.val < 1024 then V (Proc.devRef .tc main_arg2) (ix3 1 l ⟨k.val, h⟩)
        else V (Proc.devRef .tc main_arg3) (ix3 1 l ⟨k.val - 1024, by omega⟩) := by
  after_results
  pointwise
theorem h1_g (V : Valuation τ sig (Elt Ideal)) (l : Fin 1024) :
    StableHlo.after hostOps1 V (Proc.devRef .tc main_v25) (ix2 0 l) = V (Proc.devRef .tc main_arg1) (ix2 1 l) := by
  after_results
  pointwise
theorem A1_w (c : Dev nD) (l : Fin 1024) (k : Fin 2048) :
    W3 m ρ c (Proc.devRef .tc main_v22) (ix2 l k) = W m c 1 l k := by
  refine (h1_w (W2 m ρ c) l k).trans ?_
  rw [W2_args m ρ c main_arg2 (by decide), W2_args m ρ c main_arg3 (by decide)]
  rfl
theorem A1_g (c : Dev nD) (l : Fin 1024) :
    W3 m ρ c (Proc.devRef .tc main_v25) (ix2 0 l) = N m c 1 l := by
  refine (h1_g (W2 m ρ c) l).trans ?_
  rw [W2_args m ρ c main_arg1 (by decide)]
  rfl

/-- The keys and values of one layer, side by side: a lane of a token. -/
def KV (c : Dev nD) (a : Fin 2) (R : Fin 2048) (k : Fin 2048) : EReal := proj (X m c R) (N m c a) (fun l => W m c a l k)
def G2 (c : Dev nD) (a : Fin 2) : FVec Ideal S2048x2048 .f32 := fun y => KV m c a (y 0) (y 1)

theorem x0_at (c : Dev nD) (t : Fin cfg0.N) (r : Fin 512) (l : Fin 1024) :
    iblk0 (V1 m ρ) c 0 t (ix2 r l) = X m c ⟨t.val * 512 + r.val, by have := (idx0 t).2.2.2.2; omega⟩ l := by
  rw [← A0_x m ρ]
  blk_ext [iblk0, idx0 t]
theorem g0_at (c : Dev nD) (t : Fin cfg0.N) (l : Fin 1024) : iblk0 (V1 m ρ) c 1 t (ix2 0 l) = N m c 0 l := by
  rw [← A0_g m ρ]
  blk_ext [iblk0, idx0 t]
theorem w0_at (c : Dev nD) (t : Fin cfg0.N) (l : Fin 1024) (k : Fin 2048) : iblk0 (V1 m ρ) c 2 t (ix2 l k) = W m c 0 l k := by
  rw [← A0_w m ρ]
  blk_ext [iblk0, idx0 t]
theorem x1_at (c : Dev nD) (t : Fin cfg1.N) (r : Fin 512) (l : Fin 1024) :
    iblk1 (V3 m ρ) c 0 t (ix2 r l) = X m c ⟨t.val * 512 + r.val, by have := (idx1 t).2.2.2.2; omega⟩ l := by
  rw [← A1_x m ρ]
  blk_ext [iblk1, idx1 t]
theorem g1_at (c : Dev nD) (t : Fin cfg1.N) (l : Fin 1024) : iblk1 (V3 m ρ) c 1 t (ix2 0 l) = N m c 1 l := by
  rw [← A1_g m ρ]
  blk_ext [iblk1, idx1 t]
theorem w1_at (c : Dev nD) (t : Fin cfg1.N) (l : Fin 1024) (k : Fin 2048) : iblk1 (V3 m ρ) c 2 t (ix2 l k) = W m c 1 l k := by
  rw [← A1_w m ρ]
  blk_ext [iblk1, idx1 t]

theorem out0 (c : Dev nD) (t : Fin cfg0.N) : out0_3 (iblk0 (V1 m ρ) c 0 t) (iblk0 (V1 m ρ) c 1 t) (iblk0 (V1 m ρ) c 2 t)
    = k0_pay1 (iblk0 (V1 m ρ) c 0 t) (iblk0 (V1 m ρ) c 1 t) (iblk0 (V1 m ρ) c 2 t) := by
  rw [out0_3]
  frame_out
theorem out1 (c : Dev nD) (t : Fin cfg1.N) : out1_3 (iblk1 (V3 m ρ) c 0 t) (iblk1 (V3 m ρ) c 1 t) (iblk1 (V3 m ρ) c 2 t)
    = k1_pay1 (iblk1 (V3 m ρ) c 0 t) (iblk1 (V3 m ρ) c 1 t) (iblk1 (V3 m ρ) c 2 t) := by
  rw [out1_3]
  frame_out
theorem final0 (c : Dev nD) : (dat0 (V1 m ρ) c).arrAt 3 cfg0.N = G2 m c 0 := by
  refine (dat0 (V1 m ρ) c).arrAt_eq_of_covers 3 _ (by decide +kernel) fun t hf y => ?_
  blk_simp
  rw [after0_3, out0]
  idx_vars y
  refine (pay0 _ _ _ y0 y1).trans ?_
  refine (?_ : _ = G2 m c 0 (ix2 ⟨t.val * 512 + y0.val, by have := (idx0 t).2.2.2.2; omega⟩ y1)).trans (congrArg (G2 m c 0) ?_)
  · exact congr (congrArg₂ proj (funext fun l => x0_at m ρ c t y0 l) (funext fun l => g0_at m ρ c t l)) (funext fun l => w0_at m ρ c t l y1)
  · blk_ext [idx0 t]
theorem final1 (c : Dev nD) : (dat1 (V3 m ρ) c).arrAt 3 cfg1.N = G2 m c 1 := by
  refine (dat1 (V3 m ρ) c).arrAt_eq_of_covers 3 _ (by decide +kernel) fun t hf y => ?_
  blk_simp
  rw [after1_3, out1]
  idx_vars y
  refine (pay1 _ _ _ y0 y1).trans ?_
  refine (?_ : _ = G2 m c 1 (ix2 ⟨t.val * 512 + y0.val, by have := (idx1 t).2.2.2.2; omega⟩ y1)).trans (congrArg (G2 m c 1) ?_)
  · exact congr (congrArg₂ proj (funext fun l => x1_at m ρ c t y0 l) (funext fun l => g1_at m ρ c t l)) (funext fun l => w1_at m ρ c t l y1)
  · blk_ext [idx1 t]

/-! ### The host's stacking of the two layers -/
theorem h2_k (V : Valuation τ sig (Elt Ideal)) (a : Fin 2) (b : Fin 8) (s : Fin 256) (h : Fin 4) (d : Fin 256) :
    StableHlo.after hostOps2 V (Proc.devRef .tc main_v34) (ix5 a b s h d)
      = if h1 : a.val < 1 then V (Proc.devRef .tc main_v13) (ix3 b s ⟨h.val * 256 + d.val, by omega⟩)
        else V (Proc.devRef .tc main_v26) (ix2 ⟨b.val * 256 + s.val, by omega⟩ ⟨h.val * 256 + d.val, by omega⟩) := by
  after_results
  pointwise
theorem h2_v (V : Valuation τ sig (Elt Ideal)) (a : Fin 2) (b : Fin 8) (s : Fin 256) (h : Fin 4) (d : Fin 256) :
    StableHlo.after hostOps2 V (Proc.devRef .tc main_v38) (ix5 a b s h d)
      = if h1 : a.val < 1 then V (Proc.devRef .tc main_v15) (ix3 b s ⟨h.val * 256 + d.val, by omega⟩)
        else V (Proc.devRef .tc main_v26) (ix2 ⟨b.val * 256 + s.val, by omega⟩ ⟨1024 + (h.val * 256 + d.val), by omega⟩) := by
  after_results
  pointwise
theorem h1_k (V : Valuation τ sig (Elt Ideal)) (b : Fin 8) (s : Fin 256) (k : Fin 1024) :
    StableHlo.after hostOps1 V (Proc.devRef .tc main_v13) (ix3 b s k)
      = V (Proc.devRef .tc main_v11) (ix2 ⟨b.val * 256 + s.val, by omega⟩ ⟨k.val, by omega⟩) := by
  after_results
  pointwise
theorem h1_v (V : Valuation τ sig (Elt Ideal)) (b : Fin 8) (s : Fin 256) (k : Fin 1024) :
    StableHlo.after hostOps1 V (Proc.devRef .tc main_v15) (ix3 b s k)
      = V (Proc.devRef .tc main_v11) (ix2 ⟨b.val * 256 + s.val, by omega⟩ ⟨1024 + k.val, by omega⟩) := by
  after_results
  pointwise

/-- Token `s` of sequence `b` as a row of the flattened memory. -/
theorem X_at (c : Dev nD) (b : Fin 8) (s : Fin 256) (l : Fin 1024) :
    X m c ⟨b.val * 256 + s.val, by omega⟩ l = m ((c : Thread nD τ).loc main_arg0) (ix3 b s l) := by
  unfold X
  refine congrArg (m _) ?_
  rw [show (⟨(b.val * 256 + s.val) / 256, by omega⟩ : Fin 8) = b from Fin.ext (by simp only []; omega),
    show (⟨(b.val * 256 + s.val) % 256, by omega⟩ : Fin 256) = s from Fin.ext (by simp only []; omega)]
theorem Wk_at (c : Dev nD) (a : Fin 2) (l : Fin 1024) (k : Fin 1024) (h : k.val < 2048) :
    W m c a l ⟨k.val, h⟩ = m ((c : Thread nD τ).loc main_arg2) (ix3 a l k) := dif_pos k.isLt
theorem Wv_at (c : Dev nD) (a : Fin 2) (l : Fin 1024) (k : Fin 1024) (h : 1024 + k.val < 2048) :
    W m c a l ⟨1024 + k.val, h⟩ = m ((c : Thread nD τ).loc main_arg3) (ix3 a l k) := by
  unfold W
  rw [dif_neg (by simp only []; omega)]
  exact congrArg (fun q => m ((c : Thread nD τ).loc main_arg3) (ix3 a l q)) (Fin.ext (by simp only []; omega))

/-- The arrays the call is to end with: the reference's keys and values. -/
def GK (c : Dev nD) : FVec Ideal S2x8x256x4x256 .f32 :=
  Cert.Reference4Ideal.Read.val_main_v48 (F := Ideal) (m ((c : Thread nD τ).loc main_arg0)) (m ((c : Thread nD τ).loc main_arg1)) (m ((c : Thread nD τ).loc main_arg2))
def GV (c : Dev nD) : FVec Ideal S2x8x256x4x256 .f32 :=
  Cert.Reference4Ideal.Read.val_main_v51 (F := Ideal) (m ((c : Thread nD τ).loc main_arg0)) (m ((c : Thread nD τ).loc main_arg1)) (m ((c : Thread nD τ).loc main_arg3))

theorem K_row (c : Dev nD) (a : Fin 2) (b : Fin 8) (s : Fin 256) (k : Fin 1024) :
    KV m c a ⟨b.val * 256 + s.val, by omega⟩ ⟨k.val, by omega⟩
      = proj (fun l => m ((c : Thread nD τ).loc main_arg0) (ix3 b s l)) (N m c a) (fun l => m ((c : Thread nD τ).loc main_arg2) (ix3 a l k)) :=
  congr (congrArg₂ proj (funext fun l => X_at m c b s l) rfl) (funext fun l => Wk_at m c a l k _)
theorem V_row (c : Dev nD) (a : Fin 2) (b : Fin 8) (s : Fin 256) (k : Fin 1024) :
    KV m c a ⟨b.val * 256 + s.val, by omega⟩ ⟨1024 + k.val, by omega⟩
      = proj (fun l => m ((c : Thread nD τ).loc main_arg0) (ix3 b s l)) (N m c a) (fun l => m ((c : Thread nD τ).loc main_arg3) (ix3 a l k)) :=
  congr (congrArg₂ proj (funext fun l => X_at m c b s l) rfl) (funext fun l => Wv_at m c a l k _)

theorem W2_v11 (c : Dev nD) : W2 m ρ c (Proc.devRef .tc main_v11) = G2 m c 0 := (W2_arr m ρ c 3).trans (final0 m ρ c)
theorem W4_v26 (c : Dev nD) : W4 m ρ c (Proc.devRef .tc main_v26) = G2 m c 1 := (W4_arr m ρ c 3).trans (final1 m ρ c)
theorem W4_v13 (c : Dev nD) (b : Fin 8) (s : Fin 256) (k : Fin 1024) :
    W4 m ρ c (Proc.devRef .tc main_v13) (ix3 b s k) = KV m c 0 ⟨b.val * 256 + s.val, by omega⟩ ⟨k.val, by omega⟩ := by
  rw [W4_of m ρ c main_v13 (by decide)]
  refine (h1_k (W2 m ρ c) b s k).trans ?_
  rw [W2_v11]
  rfl
theorem W4_v15 (c : Dev nD) (b : Fin 8) (s : Fin 256) (k : Fin 1024) :
    W4 m ρ c (Proc.devRef .tc main_v15) (ix3 b s k) = KV m c 0 ⟨b.val * 256 + s.val, by omega⟩ ⟨1024 + k.val, by omega⟩ := by
  rw [W4_of m ρ c main_v15 (by decide)]
  refine (h1_v (W2 m ρ c) b s k).trans ?_
  rw [W2_v11]
  rfl

theorem final_k (c : Dev nD) : W5 m ρ c (Proc.devRef .tc main_v34) = GK m c := by
  funext y
  idx_vars y
  refine (h2_k (W4 m ρ c) y0 y1 y2 y3 y4).trans ?_
  refine Eq.trans ?_ (Cert.Reference4Ideal.Mem.keys _ _ _ y0 y1 y2 y3 y4).symm
  split
  · rw [W4_v13, show y0 = 0 from by omega]
    exact K_row m c 0 y1 y2 ⟨y3.val * 256 + y4.val, by omega⟩
  · rw [W4_v26, show y0 = 1 from by omega]
    exact K_row m c 1 y1 y2 ⟨y3.val * 256 + y4.val, by omega⟩
theorem final_v (c : Dev nD) : W5 m ρ c (Proc.devRef .tc main_v38) = GV m c := by
  funext y
  idx_vars y
  refine (h2_v (W4 m ρ c) y0 y1 y2 y3 y4).trans ?_
  refine Eq.trans ?_ (Cert.Reference4Ideal.Mem.vals _ _ _ y0 y1 y2 y3 y4).symm
  split
  · rw [W4_v15, show y0 = 0 from by omega]
    exact V_row m c 0 y1 y2 ⟨y3.val * 256 + y4.val, by omega⟩
  · rw [W4_v26, show y0 = 1 from by omega]
    exact V_row m c 1 y1 y2 ⟨y3.val * 256 + y4.val, by omega⟩
end Cert.Kernel4Ideal.Mem
end
end
-- ==== Proof.ProjPoint.lean ====
module
public import proofs.«01_k».proof.Proof.Gen.Kernel5Ideal.Frame
public import proofs.«01_k».proof.Proof.Gen.Reference5Ideal.Read
public import Idealize.ShloMosaic.Lib.Pipeline.ValueKit
public import Idealize.ShloMosaic.Lib.Claim
public import Idealize.ShloMosaic.Lib.Pipeline.ReadBack
public import proofs.«01_k».proof.Proof.MemRef
set_option maxRecDepth 16384
@[expose] public section
noncomputable section
open Idealize.ShloMosaic Idealize.ShloMosaic.TcCoe Idealize.SL.Sem
open Idealize.ShloMosaic.Pipeline (Dat)

namespace Cert.Reference5Ideal.Proj
open Cert.Reference5Ideal Cert.Reference5Ideal.Gen Cert.Reference5Ideal.Read Cert.Swi Cert.Mem
variable (x0 : FVec Ideal S8x2048x1024 .f32) (x1 : FVec Ideal S2x1024 .f32) (x2 : FVec Ideal S1x1024x2304 .f32)
theorem xn (b : Fin 8) (t : Fin 2048) (l : Fin 1024) :
    val_main_v14 (F := Ideal) x0 x1 (ix3 b t l) = nrm (fun l => x0 (ix3 b t l)) (fun l => x1 (ix2 0 l)) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The reference's projection at an index. -/
theorem h_at (b : Fin 8) (t : Fin 2048) (k : Fin 2304) :
    val_main_v16 (F := Ideal) x0 x1 x2 (ix3 b t k) = proj (fun l => x0 (ix3 b t l)) (fun l => x1 (ix2 0 l)) (fun l => x2 (ix3 0 l k)) := by
  pointwise [val_main_v16, val_main_v15]
  simp only [xn, proj]
/-- The last 15 tokens' pool lanes. -/
theorem pool_at (u : Fin 1) (b : Fin 8) (s : Fin 15) (k : Fin 512) :
    val_main_v24 (F := Ideal) x0 x1 x2 (ix4 u b s k) = val_main_v16 (F := Ideal) x0 x1 x2 (ix3 b ⟨2033 + s.val, by omega⟩ ⟨k.val, by omega⟩) := by
  pointwise [val_main_v24, val_main_v20, val_main_v19, val_main_v18]
  rw [dif_neg (by omega)]
  exact congrArg (val_main_v16 (F := Ideal) x0 x1 x2) (congrArg (ix3 b · _) (Fin.ext (by simp only []; omega)))
theorem shift_at (u : Fin 1) (b : Fin 8) (k : Fin 1792) :
    val_main_v25 (F := Ideal) x0 x1 x2 (ix3 u b k) = val_main_v16 (F := Ideal) x0 x1 x2 (ix3 b ⟨2047, by omega⟩ ⟨512 + k.val, by omega⟩) := by
  pointwise [val_main_v25, val_main_v23, val_main_v22, val_main_v21]
end Cert.Reference5Ideal.Proj

namespace Cert.Kernel5Ideal.Proj
open Cert.Kernel5Ideal Cert.Kernel5Ideal.Gen Cert.Mem
variable (m : (ℓ : Loc nD τ sig) → Buf (Elt Ideal) ℓ) (ρ : Dev nD → PrngReg)

theorem pay (x : FVec Ideal S512x1024 .f32) (g : FVec Ideal S1x1024 .f32) (w : FVec Ideal S1024x2304 .bf16) (r : Fin 512) (k : Fin 2304) :
    k0_pay1 (F := Ideal) x g w (ix2 r k) = proj (fun l => x (ix2 r l)) (fun l => g (ix2 0 l)) (fun l => w (ix2 l k)) := by
  pointwise [k0_pay1]
  rfl
theorem idx : ∀ t : Fin cfg0.N, win0_0.index t = ![t.val, 0] ∧ win0_1.index t = ![0, 0] ∧ win0_2.index t = ![0, 0] ∧ win0_3.index t = ![t.val, 0] ∧ t.val < 32 :=
  (by decide +kernel : ∀ t : Fin grid0.N, _)
/-- Row `R` of the flattened stream is token `R % 2048` of sequence `R / 2048`. -/
def X (c : Dev nD) (R : Fin 16384) (l : Fin 1024) : EReal :=
  m ((c : Thread nD τ).loc main_arg0) (ix3 ⟨R.val / 2048, by omega⟩ ⟨R.val % 2048, by omega⟩ l)
theorem e_x (V : Valuation τ sig (Elt Ideal)) (R : Fin 16384) (l : Fin 1024) :
    StableHlo.after hostOps0 V (Proc.devRef .tc main_v0) (ix2 R l) = V (Proc.devRef .tc main_arg0) (ix3 ⟨R.val / 2048, by omega⟩ ⟨R.val % 2048, by omega⟩ l) := by
  after_results
  pointwise
theorem e_g (V : Valuation τ sig (Elt Ideal)) (l : Fin 1024) :
    StableHlo.after hostOps0 V (Proc.devRef .tc main_v5) (ix2 0 l) = V (Proc.devRef .tc main_arg1) (ix2 0 l) := by
  after_results
  pointwise
theorem e_w (V : Valuation τ sig (Elt Ideal)) (l : Fin 1024) (k : Fin 2304) :
    StableHlo.after hostOps0 V (Proc.devRef .tc main_v4) (ix2 l k) = V (Proc.devRef .tc main_arg2) (ix3 0 l k) := by
  after_results
  pointwise
theorem x_at (c : Dev nD) (t : Fin cfg0.N) (r : Fin 512) (l : Fin 1024) :
    iblk m c 0 t (ix2 r l) = X m c ⟨t.val * 512 + r.val, by have := (idx t).2.2.2.2; omega⟩ l := by
  refine Eq.trans ?_ (e_x (fun b => m (c, b)) _ l)
  blk_ext [iblk, idx t]
theorem g_at (c : Dev nD) (t : Fin cfg0.N) (l : Fin 1024) :
    iblk m c 1 t (ix2 0 l) = m ((c : Thread nD τ).loc main_arg1) (ix2 0 l) := by
  refine Eq.trans ?_ (e_g (fun b => m (c, b)) l)
  blk_ext [iblk, idx t]
theorem w_at (c : Dev nD) (t : Fin cfg0.N) (l : Fin 1024) (k : Fin 2304) :
    iblk m c 2 t (ix2 l k) = m ((c : Thread nD τ).loc main_arg2) (ix3 0 l k) := by
  refine Eq.trans ?_ (e_w (fun b => m (c, b)) l k)
  blk_ext [iblk, idx t]
theorem out (c : Dev nD) (t : Fin cfg0.N) : out0_3 (iblk m c 0 t) (iblk m c 1 t) (iblk m c 2 t)
    = k0_pay1 (iblk m c 0 t) (iblk m c 1 t) (iblk m c 2 t) := by
  rw [out0_3]
  frame_out
/-- The projection of every row. -/
def H (c : Dev nD) : FVec Ideal S16384x2304 .f32 := fun y => proj (X m c (y 0)) (fun l => m ((c : Thread nD τ).loc main_arg1) (ix2 0 l)) (fun l => m ((c : Thread nD τ).loc main_arg2) (ix3 0 l (y 1)))
theorem final0 (c : Dev nD) : (dats m 0 c).arrAt 3 cfg0.N = H m c := by
  refine (dats m 0 c).arrAt_eq_of_covers 3 _ (by decide +kernel) fun t hf y => ?_
  blk_simp
  rw [after0_3, out]
  idx_vars y
  refine (pay _ _ _ y0 y1).trans ?_
  refine (?_ : _ = H m c (ix2 ⟨t.val * 512 + y0.val, by have := (idx t).2.2.2.2; omega⟩ y1)).trans (congrArg (H m c) ?_)
  · exact congr (congrArg₂ proj (funext fun l => x_at m c t y0 l) (funext fun l => g_at m c t l)) (funext fun l => w_at m c t l y1)
  · blk_ext [idx t]
/-- What the host's lines after the call start from. -/
def Z (c : Dev nD) : Valuation τ sig (Elt Ideal) := Pipeline.withArrays (cfgs 0).spec c (V0 m c) fun w => (dats m 0 c).arrAt w (cfgs 0).N
theorem Z_h (c : Dev nD) : Z m c (Proc.devRef .tc main_v6) = H m c :=
  (Pipeline.withArrays_arr spec0 (by decide) c (V0 m c) (fun w => (dats m 0 c).arrAt w (cfgs 0).N) 3).trans (final0 m c)

theorem t_h (V : Valuation τ sig (Elt Ideal)) (b : Fin 8) (t : Fin 2048) (k : Fin 2304) :
    StableHlo.after hostOps1 V (Proc.devRef .tc main_v7) (ix3 b t k) = V (Proc.devRef .tc main_v6) (ix2 ⟨b.val * 2048 + t.val, by omega⟩ k) := by
  after_results
  pointwise
theorem t_pool (V : Valuation τ sig (Elt Ideal)) (u : Fin 1) (b : Fin 8) (s : Fin 15) (k : Fin 512) :
    StableHlo.after hostOps1 V (Proc.devRef .tc main_v11) (ix4 u b s k) = V (Proc.devRef .tc main_v6) (ix2 ⟨b.val * 2048 + (2033 + s.val), by omega⟩ ⟨k.val, by omega⟩) := by
  after_results
  pointwise
theorem t_shift (V : Valuation τ sig (Elt Ideal)) (u : Fin 1) (b : Fin 8) (k : Fin 1792) :
    StableHlo.after hostOps1 V (Proc.devRef .tc main_v12) (ix3 u b k) = V (Proc.devRef .tc main_v6) (ix2 ⟨b.val * 2048 + 2047, by omega⟩ ⟨512 + k.val, by omega⟩) := by
  after_results
  pointwise
/-- A row of the projection is the reference's. -/
theorem H_ref (c : Dev nD) (b : Fin 8) (t : Fin 2048) (R : Fin 16384) (hR : R.val = b.val * 2048 + t.val) (k : Fin 2304) :
    H m c (ix2 R k) = Cert.Reference5Ideal.Read.val_main_v16 (F := Ideal) (m ((c : Thread nD τ).loc main_arg0)) (m ((c : Thread nD τ).loc main_arg1)) (m ((c : Thread nD τ).loc main_arg2)) (ix3 b t k) := by
  refine Eq.trans ?_ (Cert.Reference5Ideal.Proj.h_at _ _ _ _ _ _).symm
  refine congr (congrArg₂ proj (funext fun l => ?_) rfl) rfl
  show m ((c : Thread nD τ).loc main_arg0) (ix3 ⟨R.val / 2048, _⟩ ⟨R.val % 2048, _⟩ l) = _
  rw [show (⟨R.val / 2048, by omega⟩ : Fin 8) = b from Fin.ext (by simp only []; omega),
    show (⟨R.val % 2048, by omega⟩ : Fin 2048) = t from Fin.ext (by simp only []; omega)]
def G0 (c : Dev nD) := Cert.Reference5Ideal.Read.val_main_v16 (F := Ideal) (m ((c : Thread nD τ).loc main_arg0)) (m ((c : Thread nD τ).loc main_arg1)) (m ((c : Thread nD τ).loc main_arg2))
def G1 (c : Dev nD) := Cert.Reference5Ideal.Read.val_main_v24 (F := Ideal) (m ((c : Thread nD τ).loc main_arg0)) (m ((c : Thread nD τ).loc main_arg1)) (m ((c : Thread nD τ).loc main_arg2))
def G2 (c : Dev nD) := Cert.Reference5Ideal.Read.val_main_v25 (F := Ideal) (m ((c : Thread nD τ).loc main_arg0)) (m ((c : Thread nD τ).loc main_arg1)) (m ((c : Thread nD τ).loc main_arg2))
theorem final_h (c : Dev nD) : StableHlo.after [hostOps1].flatten (Z m c) (Proc.devRef .tc main_v7) = G0 m c := by
  funext y
  idx_vars y
  refine (t_h (Z m c) y0 y1 y2).trans ?_
  rw [Z_h]
  exact H_ref m c y0 y1 _ rfl y2
theorem final_pool (c : Dev nD) : StableHlo.after [hostOps1].flatten (Z m c) (Proc.devRef .tc main_v11) = G1 m c := by
  funext y
  idx_vars y
  refine (t_pool (Z m c) y0 y1 y2 y3).trans ?_
  rw [Z_h]
  exact (H_ref m c y1 ⟨2033 + y2.val, by omega⟩ _ rfl _).trans (Cert.Reference5Ideal.Proj.pool_at _ _ _ _ _ _ _).symm
theorem final_shift (c : Dev nD) : StableHlo.after [hostOps1].flatten (Z m c) (Proc.devRef .tc main_v12) = G2 m c := by
  funext y
  idx_vars y
  refine (t_shift (Z m c) y0 y1 y2).trans ?_
  rw [Z_h]
  exact (H_ref m c y1 ⟨2047, by omega⟩ _ rfl _).trans (Cert.Reference5Ideal.Proj.shift_at _ _ _ _ _ _).symm

theorem run : θ_run defs (onTc (τ := τ) (main (F := Ideal))) ⟨m, fun _ => 0, ρ⟩ (fun r => ∀ c : Dev nD,
      r.2.mem ((c : Thread nD τ).loc main_v7) = StableHlo.after [hostOps1].flatten (Z m c) (Proc.devRef .tc main_v7)
      ∧ r.2.mem ((c : Thread nD τ).loc main_v11) = StableHlo.after [hostOps1].flatten (Z m c) (Proc.devRef .tc main_v11)
      ∧ r.2.mem ((c : Thread nD τ).loc main_v12) = StableHlo.after [hostOps1].flatten (Z m c) (Proc.devRef .tc main_v12)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).2 main_v7 (Pipeline.mem_restRefs_of main_v7 (by decide) (by decide)),
      (h c).2 main_v11 (Pipeline.mem_restRefs_of main_v11 (by decide) (by decide)),
      (h c).2 main_v12 (Pipeline.mem_restRefs_of main_v12 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)
end Cert.Kernel5Ideal.Proj
end
end
-- ==== Proof.StepProj.lean ====
module
public import proofs.«01_k».proof.Proof.Gen.Kernel6Ideal.Frame
public import proofs.«01_k».proof.Proof.Gen.Reference6Ideal.Read
public import Idealize.ShloMosaic.Lib.Pipeline.ValueKit
public import Idealize.ShloMosaic.Lib.Claim
public import Idealize.ShloMosaic.Lib.Pipeline.ReadBack
public import proofs.«01_k».proof.Proof.MemRef
set_option maxRecDepth 16384
@[expose] public section
noncomputable section
open Idealize.ShloMosaic Idealize.ShloMosaic.TcCoe Idealize.SL.Sem
open Idealize.ShloMosaic.Pipeline (Dat)

namespace Cert.Reference6Ideal.Proj
open Cert.Reference6Ideal Cert.Reference6Ideal.Gen Cert.Reference6Ideal.Read Cert.Swi Cert.Mem
variable (x0 : FVec Ideal S128x1x1024 .f32) (x1 : FVec Ideal S2x1024 .f32) (x2 : FVec Ideal S1x1024x2304 .f32)
theorem xn (b : Fin 128) (t : Fin 1) (l : Fin 1024) :
    val_main_v14 (F := Ideal) x0 x1 (ix3 b t l) = nrm (fun l => x0 (ix3 b t l)) (fun l => x1 (ix2 0 l)) l := by
  obtain rfl : t = 0 := by omega
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The reference's projection at an index. -/
theorem h_at (b : Fin 128) (t : Fin 1) (k : Fin 2304) :
    val_main_v16 (F := Ideal) x0 x1 x2 (ix3 b t k) = proj (fun l => x0 (ix3 b t l)) (fun l => x1 (ix2 0 l)) (fun l => x2 (ix3 0 l k)) := by
  pointwise [val_main_v16, val_main_v15]
  simp only [xn, proj]
/-- The buffer's last 14 entries, then the new one. -/
theorem pool_at (x3 : FVec Ideal S1x128x15x512 .f32) (u : Fin 1) (b : Fin 128) (s : Fin 15) (k : Fin 512) :
    val_main_v24 (F := Ideal) x0 x1 x2 x3 (ix4 u b s k)
      = if h : s.val < 14 then x3 (ix4 0 b ⟨1 + s.val, by omega⟩ k) else val_main_v16 (F := Ideal) x0 x1 x2 (ix3 b 0 ⟨k.val, by omega⟩) := by
  pointwise [val_main_v24, val_main_v20, val_main_v19, val_main_v18, val_main_v17]
  by_cases h : s.val < 14
  · rw [dif_pos (by omega), dif_pos h]
  · rw [dif_neg (by omega), dif_neg h]
    exact congrArg (val_main_v16 (F := Ideal) x0 x1 x2) (congrArg (ix3 b · _) (Fin.ext (by simp only [Fin.val_zero]; omega)))
theorem shift_at (u : Fin 1) (b : Fin 128) (k : Fin 1792) :
    val_main_v25 (F := Ideal) x0 x1 x2 (ix3 u b k) = val_main_v16 (F := Ideal) x0 x1 x2 (ix3 b 0 ⟨512 + k.val, by omega⟩) := by
  pointwise [val_main_v25, val_main_v22, val_main_v21]
theorem row_at (b : Fin 128) (k : Fin 2304) :
    val_main_v23 (F := Ideal) x0 x1 x2 (ix2 b k) = val_main_v16 (F := Ideal) x0 x1 x2 (ix3 b 0 k) := by
  pointwise [val_main_v23]
end Cert.Reference6Ideal.Proj

namespace Cert.Kernel6Ideal.Proj
open Cert.Kernel6Ideal Cert.Kernel6Ideal.Gen Cert.Mem
variable (m : (ℓ : Loc nD τ sig) → Buf (Elt Ideal) ℓ) (ρ : Dev nD → PrngReg)

theorem pay (x : FVec Ideal S128x1024 .f32) (g : FVec Ideal S1x1024 .f32) (w : FVec Ideal S1024x2304 .bf16) (r : Fin 128) (k : Fin 2304) :
    k0_pay1 (F := Ideal) x g w (ix2 r k) = proj (fun l => x (ix2 r l)) (fun l => g (ix2 0 l)) (fun l => w (ix2 l k)) := by
  pointwise [k0_pay1]
  rfl
theorem idx : ∀ t : Fin cfg0.N, win0_0.index t = ![t.val, 0] ∧ win0_1.index t = ![0, 0] ∧ win0_2.index t = ![0, 0] ∧ win0_3.index t = ![t.val, 0] ∧ t.val < 1 :=
  (by decide +kernel : ∀ t : Fin grid0.N, _)
/-- Row `R` of the flattened stream is token `R % 1` of sequence `R / 1`. -/
def X (c : Dev nD) (R : Fin 128) (l : Fin 1024) : EReal :=
  m ((c : Thread nD τ).loc main_arg0) (ix3 R 0 l)
theorem e_x (V : Valuation τ sig (Elt Ideal)) (R : Fin 128) (l : Fin 1024) :
    StableHlo.after hostOps0 V (Proc.devRef .tc main_v0) (ix2 R l) = V (Proc.devRef .tc main_arg0) (ix3 R 0 l) := by
  after_results
  pointwise
theorem e_g (V : Valuation τ sig (Elt Ideal)) (l : Fin 1024) :
    StableHlo.after hostOps0 V (Proc.devRef .tc main_v5) (ix2 0 l) = V (Proc.devRef .tc main_arg1) (ix2 0 l) := by
  after_results
  pointwise
theorem e_w (V : Valuation τ sig (Elt Ideal)) (l : Fin 1024) (k : Fin 2304) :
    StableHlo.after hostOps0 V (Proc.devRef .tc main_v4) (ix2 l k) = V (Proc.devRef .tc main_arg2) (ix3 0 l k) := by
  after_results
  pointwise
theorem x_at (c : Dev nD) (t : Fin cfg0.N) (r : Fin 128) (l : Fin 1024) :
    iblk m c 0 t (ix2 r l) = X m c ⟨t.val * 128 + r.val, by have := (idx t).2.2.2.2; omega⟩ l := by
  refine Eq.trans ?_ (e_x (fun b => m (c, b)) _ l)
  blk_ext [iblk, idx t]
theorem g_at (c : Dev nD) (t : Fin cfg0.N) (l : Fin 1024) :
    iblk m c 1 t (ix2 0 l) = m ((c : Thread nD τ).loc main_arg1) (ix2 0 l) := by
  refine Eq.trans ?_ (e_g (fun b => m (c, b)) l)
  blk_ext [iblk, idx t]
theorem w_at (c : Dev nD) (t : Fin cfg0.N) (l : Fin 1024) (k : Fin 2304) :
    iblk m c 2 t (ix2 l k) = m ((c : Thread nD τ).loc main_arg2) (ix3 0 l k) := by
  refine Eq.trans ?_ (e_w (fun b => m (c, b)) l k)
  blk_ext [iblk, idx t]
theorem out (c : Dev nD) (t : Fin cfg0.N) : out0_3 (iblk m c 0 t) (iblk m c 1 t) (iblk m c 2 t)
    = k0_pay1 (iblk m c 0 t) (iblk m c 1 t) (iblk m c 2 t) := by
  rw [out0_3]
  frame_out
/-- The projection of every row. -/
def H (c : Dev nD) : FVec Ideal S128x2304 .f32 := fun y => proj (X m c (y 0)) (fun l => m ((c : Thread nD τ).loc main_arg1) (ix2 0 l)) (fun l => m ((c : Thread nD τ).loc main_arg2) (ix3 0 l (y 1)))
theorem final0 (c : Dev nD) : (dats m 0 c).arrAt 3 cfg0.N = H m c := by
  refine (dats m 0 c).arrAt_eq_of_covers 3 _ (by decide +kernel) fun t hf y => ?_
  blk_simp
  rw [after0_3, out]
  idx_vars y
  refine (pay _ _ _ y0 y1).trans ?_
  refine (?_ : _ = H m c (ix2 ⟨t.val * 128 + y0.val, by have := (idx t).2.2.2.2; omega⟩ y1)).trans (congrArg (H m c) ?_)
  · exact congr (congrArg₂ proj (funext fun l => x_at m c t y0 l) (funext fun l => g_at m c t l)) (funext fun l => w_at m c t l y1)
  · blk_ext [idx t]
/-- What the host's lines after the call start from. -/
def Z (c : Dev nD) : Valuation τ sig (Elt Ideal) := Pipeline.withArrays (cfgs 0).spec c (V0 m c) fun w => (dats m 0 c).arrAt w (cfgs 0).N
theorem Z_h (c : Dev nD) : Z m c (Proc.devRef .tc main_v6) = H m c :=
  (Pipeline.withArrays_arr spec0 (by decide) c (V0 m c) (fun w => (dats m 0 c).arrAt w (cfgs 0).N) 3).trans (final0 m c)

theorem Z_s (c : Dev nD) : Z m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)
theorem t_h (V : Valuation τ sig (Elt Ideal)) :
    StableHlo.after hostOps1 V (Proc.devRef .tc main_v6) = V (Proc.devRef .tc main_v6) := by
  after_results
theorem t_pool (V : Valuation τ sig (Elt Ideal)) (u : Fin 1) (b : Fin 128) (s : Fin 15) (k : Fin 512) :
    StableHlo.after hostOps1 V (Proc.devRef .tc main_v13) (ix4 u b s k)
      = if h : s.val < 14 then V (Proc.devRef .tc main_arg3) (ix4 0 b ⟨1 + s.val, by omega⟩ k) else V (Proc.devRef .tc main_v6) (ix2 b ⟨k.val, by omega⟩) := by
  after_results
  pointwise
theorem t_shift (V : Valuation τ sig (Elt Ideal)) (u : Fin 1) (b : Fin 128) (k : Fin 1792) :
    StableHlo.after hostOps1 V (Proc.devRef .tc main_v14) (ix3 u b k) = V (Proc.devRef .tc main_v6) (ix2 b ⟨512 + k.val, by omega⟩) := by
  after_results
  pointwise
/-- A row of the projection is the reference's. -/
theorem H_ref (c : Dev nD) (b : Fin 128) (k : Fin 2304) :
    H m c (ix2 b k) = Cert.Reference6Ideal.Read.val_main_v16 (F := Ideal) (m ((c : Thread nD τ).loc main_arg0)) (m ((c : Thread nD τ).loc main_arg1)) (m ((c : Thread nD τ).loc main_arg2)) (ix3 b 0 k) :=
  (Cert.Reference6Ideal.Proj.h_at _ _ _ _ _ _).symm
def G0 (c : Dev nD) := Cert.Reference6Ideal.Read.val_main_v23 (F := Ideal) (m ((c : Thread nD τ).loc main_arg0)) (m ((c : Thread nD τ).loc main_arg1)) (m ((c : Thread nD τ).loc main_arg2))
def G1 (c : Dev nD) := Cert.Reference6Ideal.Read.val_main_v24 (F := Ideal) (m ((c : Thread nD τ).loc main_arg0)) (m ((c : Thread nD τ).loc main_arg1)) (m ((c : Thread nD τ).loc main_arg2)) (m ((c : Thread nD τ).loc main_arg3))
def G2 (c : Dev nD) := Cert.Reference6Ideal.Read.val_main_v25 (F := Ideal) (m ((c : Thread nD τ).loc main_arg0)) (m ((c : Thread nD τ).loc main_arg1)) (m ((c : Thread nD τ).loc main_arg2))
theorem final_h (c : Dev nD) : (dats m 0 c).arrAt 3 cfg0.N = G0 m c := by
  rw [final0]
  funext y
  idx_vars y
  exact (H_ref m c y0 y1).trans (Cert.Reference6Ideal.Proj.row_at _ _ _ _ _).symm
theorem final_pool (c : Dev nD) : StableHlo.after [hostOps1].flatten (Z m c) (Proc.devRef .tc main_v13) = G1 m c := by
  funext y
  idx_vars y
  refine (t_pool (Z m c) y0 y1 y2 y3).trans ?_
  rw [Z_h, Z_s, H_ref]
  exact (Cert.Reference6Ideal.Proj.pool_at _ _ _ _ _ _ _ _).symm
theorem final_shift (c : Dev nD) : StableHlo.after [hostOps1].flatten (Z m c) (Proc.devRef .tc main_v14) = G2 m c := by
  funext y
  idx_vars y
  refine (t_shift (Z m c) y0 y1 y2).trans ?_
  rw [Z_h, H_ref]
  exact (Cert.Reference6Ideal.Proj.shift_at _ _ _ _ _ _).symm

theorem run : θ_run defs (onTc (τ := τ) (main (F := Ideal))) ⟨m, fun _ => 0, ρ⟩ (fun r => ∀ c : Dev nD,
      r.2.mem ((c : Thread nD τ).loc main_v6) = (dats m 0 c).arrAt 3 cfg0.N
      ∧ r.2.mem ((c : Thread nD τ).loc main_v13) = StableHlo.after [hostOps1].flatten (Z m c) (Proc.devRef .tc main_v13)
      ∧ r.2.mem ((c : Thread nD τ).loc main_v14) = StableHlo.after [hostOps1].flatten (Z m c) (Proc.devRef .tc main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1 3,
      (h c).2 main_v13 (Pipeline.mem_restRefs_of main_v13 (by decide) (by decide)),
      (h c).2 main_v14 (Pipeline.mem_restRefs_of main_v14 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)
end Cert.Kernel6Ideal.Proj
end
end
-- ==== Proof.InPoint.lean ====
module
public import proofs.«01_k».proof.Proof.Gen.Kernel7Ideal.Frame
public import proofs.«01_k».proof.Proof.Gen.Reference7Ideal.Read
public import Idealize.ShloMosaic.Lib.Pipeline.ValueKit
public import Idealize.ShloMosaic.Lib.Claim
public import Idealize.ShloMosaic.Lib.Pipeline.ReadBack
public import proofs.«01_k».proof.Proof.MemRef
set_option maxRecDepth 16384
@[expose] public section
noncomputable section
open Idealize.ShloMosaic Idealize.ShloMosaic.TcCoe Idealize.SL.Sem
open Idealize.ShloMosaic.Pipeline (Dat)

namespace Cert.Reference7Ideal.InProj
open Cert.Reference7Ideal Cert.Reference7Ideal.Gen Cert.Reference7Ideal.Read Cert.Swi Cert.Mem
variable (x0 : FVec Ideal S16384x1024 .f32) (x1 : FVec Ideal S2x1024 .f32) (x2 : FVec Ideal S1x1024x3072 .f32)
theorem xn (R : Fin 16384) (l : Fin 1024) :
    val_main_v14 (F := Ideal) x0 x1 (ix2 R l) = nrm (fun l => x0 (ix2 R l)) (fun l => x1 (ix2 1 l)) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The reference's projection at an index. -/
theorem out_at (R : Fin 16384) (k : Fin 3072) :
    val_main_v16 (F := Ideal) x0 x1 x2 (ix2 R k) = proj (fun l => x0 (ix2 R l)) (fun l => x1 (ix2 1 l)) (fun l => x2 (ix3 0 l k)) := by
  pointwise [val_main_v16, val_main_v15]
  simp only [xn, proj]
end Cert.Reference7Ideal.InProj

namespace Cert.Kernel7Ideal.InProj
open Cert.Kernel7Ideal Cert.Kernel7Ideal.Gen Cert.Mem
variable (m : (ℓ : Loc nD τ sig) → Buf (Elt Ideal) ℓ)

theorem pay (x : FVec Ideal S512x1024 .f32) (g : FVec Ideal S1x1024 .f32) (w : FVec Ideal S1024x3072 .bf16) (r : Fin 512) (k : Fin 3072) :
    k0_pay1 (F := Ideal) x g w (ix2 r k) = proj (fun l => x (ix2 r l)) (fun l => g (ix2 0 l)) (fun l => w (ix2 l k)) := by
  pointwise [k0_pay1]
  rfl
theorem idx : ∀ t : Fin cfg0.N, win0_0.index t = ![t.val, 0] ∧ win0_1.index t = ![0, 0] ∧ win0_2.index t = ![0, 0] ∧ win0_3.index t = ![t.val, 0] ∧ t.val < 32 :=
  (by decide +kernel : ∀ t : Fin grid0.N, _)
theorem x_at (c : Dev nD) (t : Fin cfg0.N) (r : Fin 512) (l : Fin 1024) :
    iblk m c 0 t (ix2 r l) = m ((c : Thread nD τ).loc main_arg0) (ix2 ⟨t.val * 512 + r.val, by have := (idx t).2.2.2.2; omega⟩ l) := by
  blk_ext [iblk, V_main_arg0, idx t]
theorem g_at (c : Dev nD) (t : Fin cfg0.N) (l : Fin 1024) :
    iblk m c 1 t (ix2 0 l) = m ((c : Thread nD τ).loc main_arg1) (ix2 1 l) := by
  blk_simp [iblk, idx t]
  entry_read
  pointwise
  blk_ext [idx t]
theorem w_at (c : Dev nD) (t : Fin cfg0.N) (l : Fin 1024) (k : Fin 3072) :
    iblk m c 2 t (ix2 l k) = m ((c : Thread nD τ).loc main_arg2) (ix3 0 l k) := by
  blk_simp [iblk, idx t]
  entry_read
  pointwise
  blk_ext [idx t]
theorem out (c : Dev nD) (t : Fin cfg0.N) : out0_3 (iblk m c 0 t) (iblk m c 1 t) (iblk m c 2 t)
    = k0_pay1 (iblk m c 0 t) (iblk m c 1 t) (iblk m c 2 t) := by
  rw [out0_3]
  frame_out
/-- The projection of the whole prompt, from the reference. -/
def G (c : Dev nD) : FVec Ideal S16384x3072 .f32 :=
  Cert.Reference7Ideal.Read.val_main_v16 (F := Ideal) (m ((c : Thread nD τ).loc main_arg0)) (m ((c : Thread nD τ).loc main_arg1)) (m ((c : Thread nD τ).loc main_arg2))
theorem final (c : Dev nD) : (dats m 0 c).arrAt 3 cfg0.N = G m c := by
  refine (dats m 0 c).arrAt_eq_of_covers 3 _ (by decide +kernel) fun t hf y => ?_
  blk_simp
  rw [after0_3, out]
  idx_vars y
  refine (pay _ _ _ y0 y1).trans ?_
  refine (?_ : _ = G m c (ix2 ⟨t.val * 512 + y0.val, by have := (idx t).2.2.2.2; omega⟩ y1)).trans (congrArg (G m c) ?_)
  · refine Eq.trans ?_ (Cert.Reference7Ideal.InProj.out_at _ _ _ _ _).symm
    exact congr (congrArg₂ proj (funext fun l => x_at m c t y0 l) (funext fun l => g_at m c t l)) (funext fun l => w_at m c t l y1)
  · blk_ext [idx t]
end Cert.Kernel7Ideal.InProj
end
end
-- ==== Proof.OutPoint.lean ====
module
public import proofs.«01_k».proof.Proof.Gen.Kernel8Ideal.Frame
public import proofs.«01_k».proof.Proof.Gen.Reference8Ideal.Read
public import Idealize.ShloMosaic.Lib.Pipeline.ValueKit
public import Idealize.ShloMosaic.Lib.Claim
public import Idealize.ShloMosaic.Lib.Pipeline.ReadBack
public import proofs.«01_k».proof.Proof.MemRef
set_option maxRecDepth 16384
@[expose] public section
noncomputable section
open Idealize.ShloMosaic Idealize.ShloMosaic.TcCoe Idealize.SL.Sem
open Idealize.ShloMosaic.Pipeline (Dat)

namespace Cert.Reference8Ideal.OutProj
open Cert.Reference8Ideal Cert.Reference8Ideal.Gen Cert.Reference8Ideal.Read
/-- The reference's projection with the residual at an index. -/
theorem out_at (x0 x1 : FVec Ideal S16384x1024 .f32) (x2 : FVec Ideal S1x1024x1024 .f32) (R : Fin 16384) (k : Fin 1024) :
    val_main_v2 (F := Ideal) x0 x1 x2 (ix2 R k) = x0 (ix2 R k) + ∑ l : Fin 1024, x1 (ix2 R l) * x2 (ix3 0 l k) := by
  pointwise [val_main_v2, val_main_v1, val_main_v0]
end Cert.Reference8Ideal.OutProj

namespace Cert.Kernel8Ideal.OutProj
open Cert.Kernel8Ideal Cert.Kernel8Ideal.Gen
variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧ t.val < 32 :=
  (by decide +kernel : ∀ t : Fin grid0.N, _)
theorem pay (x : FVec Ideal S512x1024 .f32) (w : FVec Ideal S1024x1024 .bf16) (y : FVec Ideal S512x1024 .f32) (r : Fin 512) (k : Fin 1024) :
    k0_pay1 (F := Ideal) x y w (ix2 r k) = x (ix2 r k) + ∑ l : Fin 1024, y (ix2 r l) * w (ix2 l k) := by
  pointwise [k0_pay1]
theorem y_at (c : Dev nD) (t : Fin cfg0.N) (r : Fin 512) (l : Fin 1024) :
    iblk m c 0 t (ix2 r l) = m ((c : Thread nD τ).loc main_arg1) (ix2 ⟨t.val * 512 + r.val, by have := (idx t).2.2.2.2; omega⟩ l) := by
  blk_ext [iblk, V_main_arg1, idx t]
theorem x_at (c : Dev nD) (t : Fin cfg0.N) (r : Fin 512) (l : Fin 1024) :
    iblk m c 2 t (ix2 r l) = m ((c : Thread nD τ).loc main_arg0) (ix2 ⟨t.val * 512 + r.val, by have := (idx t).2.2.2.2; omega⟩ l) := by
  blk_ext [iblk, V_main_arg0, idx t]
theorem w_at (c : Dev nD) (t : Fin cfg0.N) (l : Fin 1024) (k : Fin 1024) :
    iblk m c 1 t (ix2 l k) = m ((c : Thread nD τ).loc main_arg2) (ix3 0 l k) := by
  blk_simp [iblk, idx t]
  entry_read
  pointwise
  blk_ext [idx t]
theorem out (c : Dev nD) (t : Fin cfg0.N) : out0_3 (iblk m c 0 t) (iblk m c 1 t) (iblk m c 2 t)
    = k0_pay1 (iblk m c 2 t) (iblk m c 0 t) (iblk m c 1 t) := by
  rw [out0_3]
  frame_out
/-- The residual stream after the projection, from the reference. -/
def G (c : Dev nD) : FVec Ideal S16384x1024 .f32 :=
  Cert.Reference8Ideal.Read.val_main_v2 (F := Ideal) (m ((c : Thread nD τ).loc main_arg0)) (m ((c : Thread nD τ).loc main_arg1)) (m ((c : Thread nD τ).loc main_arg2))
theorem final (c : Dev nD) : (dats m 0 c).arrAt 3 cfg0.N = G m c := by
  refine (dats m 0 c).arrAt_eq_of_covers 3 _ (by decide +kernel) fun t hf y => ?_
  blk_simp
  rw [after0_3, out]
  idx_vars y
  refine (pay _ _ _ y0 y1).trans ?_
  refine (?_ : _ = G m c (ix2 ⟨t.val * 512 + y0.val, by have := (idx t).2.2.2.2; omega⟩ y1)).trans (congrArg (G m c) ?_)
  · refine Eq.trans ?_ (Cert.Reference8Ideal.OutProj.out_at _ _ _ _ _).symm
    exact congrArg₂ (· + ·) (x_at m c t y0 y1) (Finset.sum_congr rfl fun l _ => congrArg₂ (· * ·) (y_at m c t y0 l) (w_at m c t l y1))
  · blk_ext [idx t]
end Cert.Kernel8Ideal.OutProj
end
end
-- ==== Proof.ConvBlock.lean ====
module
public import proofs.«01_k».proof.Proof.Gen.Kernel9Ideal.Frame
public import proofs.«01_k».proof.Proof.Gen.Reference9Ideal.Read
public import Idealize.ShloMosaic.Lib.Pipeline.ValueKit
public import Idealize.ShloMosaic.Lib.Claim
public import Idealize.ShloMosaic.Lib.WritesUnit
public import Idealize.ShloMosaic.Lib.Pipeline.ReadBack
set_option maxRecDepth 16384
@[expose] public section
noncomputable section
open Idealize.ShloMosaic Idealize.ShloMosaic.TcCoe Idealize.SL.Sem
open Idealize.ShloMosaic.Pipeline (Dat)

namespace Cert.Reference9Ideal.Conv
open Cert.Reference9Ideal Cert.Reference9Ideal.Gen Cert.Reference9Ideal.Read
variable (x0 : FVec Ideal S8x2048x3072 .f32) (x1 : FVec Ideal S8x2048x1024 .f32) (x2 : FVec Ideal S1x3x1024 .f32) (x3 : FVec Ideal S1x1024x1024 .f32)
/-- The gated input of the convolution at a token. -/
def u (b : Fin 8) (T : Fin 2048) (k : Fin 1024) : EReal := x0 (ix3 b T ⟨1024 + k.val, by omega⟩) * x0 (ix3 b T ⟨2048 + k.val, by omega⟩)
/-- The gated input with two rows of zeros before the first token; zero beyond the last one. -/
def ext (b : Fin 8) (q : ℕ) (k : Fin 1024) : EReal := if h : 2 ≤ q ∧ q < 2050 then u x0 b ⟨q - 2, by omega⟩ k else 0
/-- The convolution's output times the third gate. -/
def z (b : Fin 8) (T : Fin 2048) (k : Fin 1024) : EReal :=
  x0 (ix3 b T ⟨k.val, by omega⟩) * (x2 (ix3 0 0 k) * ext x0 b T.val k + x2 (ix3 0 1 k) * ext x0 b (T.val + 1) k + x2 (ix3 0 2 k) * ext x0 b (T.val + 2) k)

theorem v4_at (b : Fin 8) (T : Fin 2048) (k : Fin 1024) : val_main_v4 (F := Ideal) x0 (ix3 b T k) = u x0 b T k := by
  pointwise [val_main_v4, val_main_v1, val_main_v2]
  rfl
theorem v5_at (b : Fin 8) (q : Fin 2050) (k : Fin 1024) : val_main_v5 (F := Ideal) x0 (ix3 b q k) = ext x0 b q.val k := by
  unfold ext
  by_cases h : 2 ≤ q.val
  · rw [dif_pos ⟨h, q.isLt⟩, ← v4_at]
    pointwise [val_main_v5]
    rw [dif_neg (by omega)]
  · rw [dif_neg (by omega)]
    pointwise [val_main_v5]
    rw [dif_pos (by omega)]
    pointwise [val_main_v3, val_main_cst]
theorem v33_at (b : Fin 8) (s : Fin 2) (k : Fin 1024) : val_main_v33 (F := Ideal) x0 (ix3 b s k) = u x0 b ⟨2046 + s.val, by omega⟩ k := by
  have := v5_at x0 b ⟨2048 + s.val, by omega⟩ k
  unfold ext at this
  rw [dif_pos (by constructor <;> simp only [] <;> omega)] at this
  refine Eq.trans ?_ (this.trans (congrArg (fun q => u x0 b q k) (Fin.ext (by simp only []; omega))))
  pointwise [val_main_v33]
theorem v29_at (b : Fin 8) (T : Fin 2048) (k : Fin 1024) : val_main_v29 (F := Ideal) x0 x2 (ix3 b T k) = z x0 x2 b T k := by
  unfold z
  have h0 := v5_at x0 b ⟨T.val, by omega⟩ k
  have h1 := v5_at x0 b ⟨1 + T.val, by omega⟩ k
  have h2 := v5_at x0 b ⟨2 + T.val, by omega⟩ k
  simp only [] at h0 h1 h2
  rw [Nat.add_comm T.val 1, Nat.add_comm T.val 2]
  rw [← h0, ← h1, ← h2]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst_0]
theorem out_at (b : Fin 8) (T : Fin 2048) (k : Fin 1024) :
    val_main_v32 (F := Ideal) x0 x1 x2 x3 (ix3 b T k) = x1 (ix3 b T k) + ∑ l : Fin 1024, z x0 x2 b T l * x3 (ix3 0 l k) := by
  refine Eq.trans ?_ (congrArg (x1 (ix3 b T k) + ·) (Finset.sum_congr rfl fun l _ => congrArg (· * x3 (ix3 0 l k)) (v29_at x0 x2 b T l)))
  pointwise [val_main_v32, val_main_v31, val_main_v30]
end Cert.Reference9Ideal.Conv

namespace Cert.Kernel9Ideal.Conv
open Cert.Kernel9Ideal Cert.Kernel9Ideal.Gen

section Pieces
variable (w : FVec Ideal S512x1024 .f32) (v : FVec Ideal S8x1024 .f32) (L : List (View.Piece (Elt Ideal) S520x1024 .f32))
  (i8 : ∀ a : Fin S520x1024.rank, (![8, 0] : Fin 2 → ℕ) a + (![512, 1024] : Fin 2 → ℕ) a ≤ S520x1024.size a)
  (i0 : ∀ a : Fin S520x1024.rank, (![0, 0] : Fin 2 → ℕ) a + (![8, 1024] : Fin 2 → ℕ) a ≤ S520x1024.size a)
/-- Rows from 8 on read the piece written there. -/
theorem canon_hi (q : Fin 520) (k : Fin 1024) (h : 8 ≤ q.val) :
    View.canon ((⟨Rect.unit (s := S520x1024) ![8, 0] ![512, 1024] i8, w⟩ : View.Piece (Elt Ideal) S520x1024 .f32) :: L) (ix2 q k) = w (ix2 ⟨q.val - 8, by omega⟩ k) :=
  (View.read_writes_junk_apply_eq_canon (View.whole cc0_scratch0) (ix2 q k) _).symm.trans
    (View.read_writes_cons_rows_of_mem (View.whole cc0_scratch0) (View.whole cc0_scratch0).junk i8 w L (ix2 q k) (ix2 ⟨q.val - 8, by omega⟩ k) rfl (by simp only [ix2]; show q.val = 8 + (q.val - 8); omega) rfl)
theorem canon_lo (q : Fin 520) (k : Fin 1024) (h : ¬ 8 ≤ q.val) :
    View.canon ((⟨Rect.unit (s := S520x1024) ![8, 0] ![512, 1024] i8, w⟩ : View.Piece (Elt Ideal) S520x1024 .f32) :: L) (ix2 q k) = View.canon L (ix2 q k) := by
  refine View.canon_cons_of_not_mem _ _ ?_
  intro hm
  have h1 := (Rect.mem_set_unit (inb := i8).mp hm) 0
  exact h h1.1
theorem canon_top (q : Fin 520) (r : Fin 8) (k : Fin 1024) (h : q.val = r.val) :
    View.canon ((⟨Rect.unit (s := S520x1024) ![0, 0] ![8, 1024] i0, v⟩ : View.Piece (Elt Ideal) S520x1024 .f32) :: L) (ix2 q k) = v (ix2 r k) := by
  have h2 := View.canon_cons_emb (Rect.unit (s := S520x1024) ![0, 0] ![8, 1024] i0) v L (ix2 r k)
  refine Eq.trans (congrArg _ ?_) h2
  refine funext (Fin.forall_fin_two.mpr ⟨Fin.ext ?_, Fin.ext ?_⟩)
  · show q.val = 0 + 1 * r.val
    omega
  · show k.val = 0 + 1 * k.val
    omega
theorem over_lo_gen {κ : Kind} {sp : Space} (vw : View sig κ sp S520x1024 .f32) (f : vw.ty.Contents (Elt Ideal)) (q : Fin 520) (k : Fin 1024) (h : ¬ 8 ≤ q.val) :
    vw.read (Elt Ideal) (vw.writes (Elt Ideal) f [(⟨Rect.unit (s := S520x1024) ![8, 0] ![512, 1024] i8, w⟩ : View.Piece (Elt Ideal) S520x1024 .f32)]) (ix2 q k) = vw.read (Elt Ideal) f (ix2 q k) :=
  (View.read_writes_cons_rows_of_not_mem (o := 8) (W := 512) vw f i8 w [] (ix2 q k) rfl rfl (by left; show q.val < 8; omega)).trans (by rw [View.writes_nil])
theorem over_hi_gen {κ : Kind} {sp : Space} (vw : View sig κ sp S520x1024 .f32) (f : vw.ty.Contents (Elt Ideal)) (q : Fin 520) (k : Fin 1024) (h : 8 ≤ q.val) :
    vw.read (Elt Ideal) (vw.writes (Elt Ideal) f [(⟨Rect.unit (s := S520x1024) ![8, 0] ![512, 1024] i8, w⟩ : View.Piece (Elt Ideal) S520x1024 .f32)]) (ix2 q k) = w (ix2 ⟨q.val - 8, by omega⟩ k) :=
  View.read_writes_cons_rows_of_mem vw f i8 w [] (ix2 q k) (ix2 ⟨q.val - 8, by omega⟩ k) rfl (by show q.val = 8 + (q.val - 8); omega) rfl
theorem over_lo (X : FVec Ideal S520x1024 .f32) (q : Fin 520) (k : Fin 1024) (h : ¬ 8 ≤ q.val) (hw : (Memref.whole cc0_scratch0).IsWhole) :
    View.read (Elt Ideal) (View.whole cc0_scratch0) ((View.whole cc0_scratch0).writes (Elt Ideal) (hw.unread X) [(⟨Rect.unit (s := S520x1024) ![8, 0] ![512, 1024] i8, w⟩ : View.Piece (Elt Ideal) S520x1024 .f32)]) (ix2 q k) = X (ix2 q k) :=
  (over_lo_gen w i8 (View.whole cc0_scratch0) (hw.unread X) q k h).trans (congrFun (read_unread_whole (Val := Elt Ideal) cc0_scratch0 hw X) (ix2 q k))
/-- A load of the staging buffer from row `o` on. -/
theorem load_at (o n : ℕ) (X : FVec Ideal S520x1024 .f32) (io : ∀ a : Fin S520x1024.rank, (![o, 0] : Fin 2 → ℕ) a + (![n, 1024] : Fin 2 → ℕ) a ≤ S520x1024.size a)
    (r : Fin n) (k : Fin 1024) (q : Fin 520) (h : q.val = o + r.val) :
    View.ld (Val := Elt Ideal) (e' := .f32) X (Rect.unit (s := S520x1024) ![o, 0] ![n, 1024] io) (ix2 r k) = X (ix2 q k) :=
  View.ld_unit_apply_of (Val := Elt Ideal) (e := .f32) X _ _ io (ix2 r k) (ix2 q k) (Fin.forall_fin_two.mpr ⟨h, (Nat.zero_add _).symm⟩)
theorem cov_at (o n : ℕ) (io : ∀ a : Fin S520x1024.rank, (![o, 0] : Fin 2 → ℕ) a + (![n, 1024] : Fin 2 → ℕ) a ≤ S520x1024.size a)
    (r : Fin n) (k : Fin 1024) (q : Fin 520) (h : q.val = o + r.val) :
    (View.whole cc0_scratch0).readCov L (Rect.unit (s := S520x1024) ![o, 0] ![n, 1024] io).toLoadRect (ix2 r k) = View.canon L (ix2 q k) :=
  (congrFun (View.readCov_eq_canon' (Val := Elt Ideal) (View.whole cc0_scratch0) L (Rect.unit (s := S520x1024) ![o, 0] ![n, 1024] io).toLoadRect) (ix2 r k)).trans (load_at o n (View.canon L) io r k q h)
theorem pay2_at (x : FVec Ideal S8x1024 .f32) (r : Fin 8) (k : Fin 1024) : k0_pay2 (F := Ideal) x (ix2 r k) = x (ix2 r k) := by
  pointwise [k0_pay2]
theorem pay3_at (x : FVec Ideal S2x1024 .f32) (i : Fin 1) (r : Fin 2) (k : Fin 1024) : k0_pay3 (F := Ideal) x (ix3 i r k) = x (ix2 r k) := by
  obtain rfl : i = 0 := by omega
  pointwise [k0_pay3]
theorem pay4_at (r : Fin 8) (k : Fin 1024) : k0_pay4 (F := Ideal) (ix2 r k) = 0 := by
  pointwise [k0_pay4]
theorem pay5_at (x y : FVec Ideal S1x512x1024 .f32) (r : Fin 512) (k : Fin 1024) : k0_pay5 (F := Ideal) x y (ix2 r k) = x (ix3 0 r k) * y (ix3 0 r k) := by
  pointwise [k0_pay5]
theorem pay6_at (a b c : FVec Ideal S1x1024 .f32) (x y z : FVec Ideal S512x1024 .f32) (h : FVec Ideal S1x512x1024 .f32) (r : Fin 512) (k : Fin 1024) :
    k0_pay6 (F := Ideal) a x b y c z h (ix2 r k) = h (ix3 0 r k) * (a (ix2 0 k) * x (ix2 r k) + b (ix2 0 k) * y (ix2 r k) + c (ix2 0 k) * z (ix2 r k)) := by
  pointwise [k0_pay6]
theorem pay1_at (g : FVec Ideal S512x1024 .f32) (x : FVec Ideal S1x512x1024 .f32) (o : FVec Ideal S1024x1024 .bf16) (i : Fin 1) (r : Fin 512) (k : Fin 1024) :
    k0_pay1 (F := Ideal) g x o (ix3 i r k) = x (ix3 0 r k) + ∑ l : Fin 1024, g (ix2 r l) * o (ix2 l k) := by
  obtain rfl : i = 0 := by omega
  pointwise [k0_pay1]
end Pieces
end Cert.Kernel9Ideal.Conv
end
end
-- ==== Proof.ConvPoint.lean ====
module
public import proofs.«01_k».proof.Proof.ConvBlock
set_option maxRecDepth 16384
@[expose] public section
noncomputable section
open Idealize.ShloMosaic Idealize.ShloMosaic.TcCoe Idealize.SL.Sem
open Idealize.ShloMosaic.Pipeline (Dat)
namespace Cert.Kernel9Ideal.Conv
open Cert.Kernel9Ideal Cert.Kernel9Ideal.Gen Cert.Reference9Ideal.Conv
variable (m : (ℓ : Loc nD τ sig) → Buf (Elt Ideal) ℓ)

theorem idx : ∀ t : Fin cfg0.N, win0_0.index t = ![t.val / 4, t.val % 4, 0] ∧ win0_1.index t = ![t.val / 4, t.val % 4, 0] ∧ win0_2.index t = ![0, 0] ∧ win0_3.index t = ![0, 0]
    ∧ win0_4.index t = ![t.val / 4, t.val % 4, 0] ∧ win0_5.index t = ![t.val / 4, 0, 0] ∧ t.val < 32 :=
  (by decide +kernel : ∀ t : Fin grid0.N, _)
theorem lt32 (t : Fin cfg0.N) : t.val < 32 := (idx t).2.2.2.2.2.2
/-- The sequence of a grid point, and the token a row of its tile is. -/
abbrev sq (t : Fin cfg0.N) : Fin 8 := ⟨t.val / 4, by have := lt32 t; omega⟩
abbrev tok (t : Fin cfg0.N) (r : Fin 512) : Fin 2048 := ⟨t.val % 4 * 512 + r.val, by have := lt32 t; omega⟩
/-- The projected input, as the reference takes it. -/
abbrev H (c : Dev nD) : FVec Ideal S8x2048x3072 .f32 := m ((c : Thread nD τ).loc main_arg0)

theorem h_at (c : Dev nD) (t : Fin cfg0.N) (r : Fin 512) (k : Fin 3072) :
    iblk m c 0 t (ix3 0 r k) = H m c (ix3 (sq t) (tok t r) k) := by
  blk_ext [iblk, V_main_arg0, idx t]
theorem x_at (c : Dev nD) (t : Fin cfg0.N) (r : Fin 512) (k : Fin 1024) :
    iblk m c 1 t (ix3 0 r k) = m ((c : Thread nD τ).loc main_arg1) (ix3 (sq t) (tok t r) k) := by
  blk_ext [iblk, V_main_arg1, idx t]
theorem cw_at (c : Dev nD) (t : Fin cfg0.N) (j : Fin 3) (k : Fin 1024) :
    iblk m c 2 t (ix2 j k) = m ((c : Thread nD τ).loc main_arg2) (ix3 0 j k) := by
  blk_simp [iblk, idx t]
  entry_read
  pointwise
  blk_ext [idx t]
theorem wo_at (c : Dev nD) (t : Fin cfg0.N) (l k : Fin 1024) :
    iblk m c 3 t (ix2 l k) = m ((c : Thread nD τ).loc main_arg3) (ix3 0 l k) := by
  blk_simp [iblk, idx t]
  entry_read
  pointwise
  blk_ext [idx t]
theorem lanes (c : Dev nD) (t : Fin cfg0.N) (o : ℕ) (io : ∀ a : Fin S1x512x3072.rank, (![0, 0, o] : Fin 3 → ℕ) a + (![1, 512, 1024] : Fin 3 → ℕ) a ≤ S1x512x3072.size a)
    (r : Fin 512) (k : Fin 1024) (q : Fin 3072) (h : q.val = o + k.val) :
    View.ld (Val := Elt Ideal) (e' := .f32) (iblk m c 0 t) (Rect.unit (s := S1x512x3072) ![0, 0, o] ![1, 512, 1024] io) (ix3 0 r k) = H m c (ix3 (sq t) (tok t r) q) :=
  (View.ld_unit_apply_of (Val := Elt Ideal) (e := .f32) (iblk m c 0 t) _ _ io (ix3 0 r k) (ix3 0 r q) (by
    intro a
    match a with
    | ⟨0, _⟩ => rfl
    | ⟨1, _⟩ => exact (Nat.zero_add _).symm
    | ⟨2, _⟩ => exact h)).trans (h_at m c t r q)
theorem tap (c : Dev nD) (t : Fin cfg0.N) (o : Fin 3) (io : ∀ a : Fin S3x1024.rank, (![o.val, 0] : Fin 2 → ℕ) a + (![1, 1024] : Fin 2 → ℕ) a ≤ S3x1024.size a) (k : Fin 1024) :
    View.ld (Val := Elt Ideal) (e' := .f32) (iblk m c 2 t) (Rect.unit (s := S3x1024) ![o.val, 0] ![1, 1024] io) (ix2 0 k) = m ((c : Thread nD τ).loc main_arg2) (ix3 0 o k) :=
  (View.ld_unit_apply_of (Val := Elt Ideal) (e := .f32) (iblk m c 2 t) _ _ io (ix2 0 k) (ix2 o k) (Fin.forall_fin_two.mpr ⟨rfl, (Nat.zero_add _).symm⟩)).trans (cw_at m c t o k)
/-- The tile's gated input, as stored from row 8 on. -/
theorem P_at (c : Dev nD) (t : Fin cfg0.N) (i1 : ∀ a : Fin S1x512x3072.rank, (![0, 0, 1024] : Fin 3 → ℕ) a + (![1, 512, 1024] : Fin 3 → ℕ) a ≤ S1x512x3072.size a)
    (i2 : ∀ a : Fin S1x512x3072.rank, (![0, 0, 2048] : Fin 3 → ℕ) a + (![1, 512, 1024] : Fin 3 → ℕ) a ≤ S1x512x3072.size a) (r : Fin 512) (k : Fin 1024) :
    k0_pay5 (F := Ideal) (View.ld (Val := Elt Ideal) (e' := .f32) (iblk m c 0 t) (Rect.unit (s := S1x512x3072) ![0, 0, 1024] ![1, 512, 1024] i1))
      (View.ld (Val := Elt Ideal) (e' := .f32) (iblk m c 0 t) (Rect.unit (s := S1x512x3072) ![0, 0, 2048] ![1, 512, 1024] i2)) (ix2 r k) = u (H m c) (sq t) (tok t r) k :=
  (pay5_at _ _ r k).trans (congrArg₂ (· * ·) (lanes m c t 1024 i1 r k _ rfl) (lanes m c t 2048 i2 r k _ rfl))

/-- After a point the first eight rows hold the last eight rows of its tile. -/
theorem head (c : Dev nD) (t : Fin cfg0.N) (q : Fin 520) (r : Fin 8) (hq : q.val = r.val) (k : Fin 1024) :
    (outsAt0 m c t.val t.isLt).2.2 (ix2 q k) = u (H m c) (sq t) (tok t ⟨504 + r.val, by omega⟩) k := by
  by_cases h0 : t.val % 4 = 0
  · rw [outsAt0_A m c t h0 (by omega)]
    frame_out
    refine (canon_top _ _ _ q r k hq).trans ?_
    refine (pay2_at _ r k).trans ?_
    refine (cov_at _ 512 8 _ r k ⟨512 + r.val, by omega⟩ rfl).trans ?_
    refine (canon_hi _ _ _ _ k (by simp only []; omega)).trans ?_
    refine (P_at m c t _ _ _ k).trans ?_
    exact congrArg (fun x => u (H m c) (sq t) x k) (Fin.ext (by simp only []; omega))
  · by_cases h1 : t.val % 4 = 3
    · rw [outsAt0_C m c t h0 h1]
      frame_out
      refine (canon_top _ _ _ q r k hq).trans ?_
      refine (pay2_at _ r k).trans ?_
      refine (cov_at _ 512 8 _ r k ⟨512 + r.val, by omega⟩ rfl).trans ?_
      refine (canon_hi _ _ _ _ k (by simp only []; omega)).trans ?_
      refine (P_at m c t _ _ _ k).trans ?_
      exact congrArg (fun x => u (H m c) (sq t) x k) (Fin.ext (by simp only []; omega))
    · rw [outsAt0_B m c t h0 h1]
      frame_out
      refine (canon_top _ _ _ q r k hq).trans ?_
      refine (pay2_at _ r k).trans ?_
      refine (cov_at _ 512 8 _ r k ⟨512 + r.val, by omega⟩ rfl).trans ?_
      refine (canon_hi _ _ _ _ k (by simp only []; omega)).trans ?_
      refine (P_at m c t _ _ _ k).trans ?_
      exact congrArg (fun x => u (H m c) (sq t) x k) (Fin.ext (by simp only []; omega))

section Rows
variable (c : Dev nD) (t : Fin cfg0.N)
  (i8 : ∀ a : Fin S520x1024.rank, (![8, 0] : Fin 2 → ℕ) a + (![512, 1024] : Fin 2 → ℕ) a ≤ S520x1024.size a)
  (i0 : ∀ a : Fin S520x1024.rank, (![0, 0] : Fin 2 → ℕ) a + (![8, 1024] : Fin 2 → ℕ) a ≤ S520x1024.size a)
  (i1 : ∀ a : Fin S1x512x3072.rank, (![0, 0, 1024] : Fin 3 → ℕ) a + (![1, 512, 1024] : Fin 3 → ℕ) a ≤ S1x512x3072.size a)
  (i2 : ∀ a : Fin S1x512x3072.rank, (![0, 0, 2048] : Fin 3 → ℕ) a + (![1, 512, 1024] : Fin 3 → ℕ) a ≤ S1x512x3072.size a)
  (q : Fin 520) (k : Fin 1024)

theorem u_ext (x : FVec Ideal S8x2048x3072 .f32) (b : Fin 8) (T : Fin 2048) (n : ℕ) (h : n = T.val + 2) : u x b T k = ext x b n k := by
  subst h
  unfold ext
  rw [dif_pos (by omega)]
  exact congrArg (fun y => u x b y k) (Fin.ext (by simp only []; omega))
/-- The tile's gated input. -/
abbrev P : FVec Ideal S512x1024 .f32 :=
  k0_pay5 (F := Ideal) (View.ld (Val := Elt Ideal) (e' := .f32) (iblk m c 0 t) (Rect.unit (s := S1x512x3072) ![0, 0, 1024] ![1, 512, 1024] i1))
      (View.ld (Val := Elt Ideal) (e' := .f32) (iblk m c 0 t) (Rect.unit (s := S1x512x3072) ![0, 0, 2048] ![1, 512, 1024] i2))
theorem P_ext (r : Fin 512) (n : ℕ) (h : n = t.val % 4 * 512 + r.val + 2) : P m c t i1 i2 (ix2 r k) = ext (H m c) (sq t) n k :=
  (P_at m c t i1 i2 r k).trans (u_ext k (H m c) (sq t) (tok t r) n h)
theorem stage_hi (L : List (View.Piece (Elt Ideal) S520x1024 .f32)) (h : 8 ≤ q.val) (n : ℕ) (hn : n + 6 = t.val % 4 * 512 + q.val) :
    View.canon ((⟨Rect.unit (s := S520x1024) ![8, 0] ![512, 1024] i8, P m c t i1 i2⟩ : View.Piece (Elt Ideal) S520x1024 .f32) :: L) (ix2 q k) = ext (H m c) (sq t) n k :=
  (canon_hi (P m c t i1 i2) L i8 q k h).trans (P_ext m c t i1 i2 k _ n (by simp only []; omega))
/-- The staging buffer of a sequence's first tile. -/
theorem stageA (h0 : t.val % 4 = 0) (h : 6 ≤ q.val) (n : ℕ) (hn : n + 6 = t.val % 4 * 512 + q.val) :
    View.canon [(⟨Rect.unit (s := S520x1024) ![8, 0] ![512, 1024] i8, P m c t i1 i2⟩ : View.Piece (Elt Ideal) S520x1024 .f32), ⟨Rect.unit (s := S520x1024) ![0, 0] ![8, 1024] i0, k0_pay4 (F := Ideal)⟩] (ix2 q k) = ext (H m c) (sq t) n k := by
  by_cases h8 : 8 ≤ q.val
  · exact stage_hi m c t i8 i1 i2 q k _ h8 n hn
  · refine (canon_lo _ _ i8 q k h8).trans ?_
    refine (canon_top _ _ i0 q ⟨q.val, by omega⟩ k rfl).trans ?_
    refine (pay4_at _ k).trans ?_
    unfold ext
    rw [dif_neg (by omega)]
/-- The staging buffer of a later tile, over what the tile before left. -/
theorem stageB (h0 : ¬ t.val % 4 = 0) (h : 6 ≤ q.val) (n : ℕ) (hn : n + 6 = t.val % 4 * 512 + q.val) (hw : (Memref.whole cc0_scratch0).IsWhole) (hp) :
    View.read (Elt Ideal) (View.whole cc0_scratch0) ((View.whole cc0_scratch0).writes (Elt Ideal) (hw.unread (outsAt0 m c (t.val - 1) hp).2.2)
      [(⟨Rect.unit (s := S520x1024) ![8, 0] ![512, 1024] i8, P m c t i1 i2⟩ : View.Piece (Elt Ideal) S520x1024 .f32)]) (ix2 q k) = ext (H m c) (sq t) n k := by
  by_cases h8 : 8 ≤ q.val
  · exact (over_hi_gen (P m c t i1 i2) i8 (View.whole cc0_scratch0) _ q k h8).trans (P_ext m c t i1 i2 k _ n (by simp only []; omega))
  · refine (over_lo _ i8 _ q k h8 hw).trans ?_
    refine (head m c ⟨t.val - 1, hp⟩ q ⟨q.val, by omega⟩ rfl k).trans ?_
    have e : sq ⟨t.val - 1, hp⟩ = sq t := Fin.ext (by simp only []; omega)
    rw [e]
    exact u_ext k (H m c) (sq t) _ n (by simp only []; omega)
end Rows

section Out
variable (c : Dev nD) (t : Fin cfg0.N) (r : Fin 512) (k : Fin 1024)
abbrev CW : FVec Ideal S1x3x1024 .f32 := m ((c : Thread nD τ).loc main_arg2)
theorem z_of (E0 E1 E2 : FVec Ideal S512x1024 .f32)
    (j0 : ∀ a : Fin S3x1024.rank, (![0, 0] : Fin 2 → ℕ) a + (![1, 1024] : Fin 2 → ℕ) a ≤ S3x1024.size a)
    (j1 : ∀ a : Fin S3x1024.rank, (![1, 0] : Fin 2 → ℕ) a + (![1, 1024] : Fin 2 → ℕ) a ≤ S3x1024.size a)
    (j2 : ∀ a : Fin S3x1024.rank, (![2, 0] : Fin 2 → ℕ) a + (![1, 1024] : Fin 2 → ℕ) a ≤ S3x1024.size a)
    (jh : ∀ a : Fin S1x512x3072.rank, (![0, 0, 0] : Fin 3 → ℕ) a + (![1, 512, 1024] : Fin 3 → ℕ) a ≤ S1x512x3072.size a)
    (e0 : E0 (ix2 r k) = ext (H m c) (sq t) (t.val % 4 * 512 + r.val) k)
    (e1 : E1 (ix2 r k) = ext (H m c) (sq t) (t.val % 4 * 512 + r.val + 1) k)
    (e2 : E2 (ix2 r k) = ext (H m c) (sq t) (t.val % 4 * 512 + r.val + 2) k) :
    k0_pay6 (F := Ideal) (View.ld (Val := Elt Ideal) (e' := .f32) (iblk m c 2 t) (Rect.unit (s := S3x1024) ![0, 0] ![1, 1024] j0)) E0
      (View.ld (Val := Elt Ideal) (e' := .f32) (iblk m c 2 t) (Rect.unit (s := S3x1024) ![1, 0] ![1, 1024] j1)) E1
      (View.ld (Val := Elt Ideal) (e' := .f32) (iblk m c 2 t) (Rect.unit (s := S3x1024) ![2, 0] ![1, 1024] j2)) E2
      (View.ld (Val := Elt Ideal) (e' := .f32) (iblk m c 0 t) (Rect.unit (s := S1x512x3072) ![0, 0, 0] ![1, 512, 1024] jh)) (ix2 r k)
      = z (H m c) (CW m c) (sq t) (tok t r) k := by
  refine (pay6_at _ _ _ _ _ _ _ r k).trans ?_
  rw [e0, e1, e2]
  exact congrArg₂ (· * ·) (lanes m c t 0 jh r k _ (by simp only []; omega))
    (congrArg₂ (· + ·) (congrArg₂ (· + ·) (congrArg (· * _) (tap m c t 0 j0 k)) (congrArg (· * _) (tap m c t 1 j1 k))) (congrArg (· * _) (tap m c t 2 j2 k)))
/-- The residual stream after the convolution, from the reference. -/
def G0 : FVec Ideal S8x2048x1024 .f32 := Cert.Reference9Ideal.Read.val_main_v32 (F := Ideal) (H m c) (m ((c : Thread nD τ).loc main_arg1)) (CW m c) (m ((c : Thread nD τ).loc main_arg3))
/-- The last two gated inputs of every sequence, from the reference. -/
def G1 : FVec Ideal S8x2x1024 .f32 := Cert.Reference9Ideal.Read.val_main_v33 (F := Ideal) (H m c)
theorem out_of (g : FVec Ideal S512x1024 .f32) (i : Fin 1) (hg : ∀ l, g (ix2 r l) = z (H m c) (CW m c) (sq t) (tok t r) l) :
    k0_pay1 (F := Ideal) g (iblk m c 1 t) (iblk m c 3 t) (ix3 i r k) = G0 m c (ix3 (sq t) (tok t r) k) := by
  refine (pay1_at _ _ _ i r k).trans ?_
  refine Eq.trans ?_ (Cert.Reference9Ideal.Conv.out_at _ _ _ _ (sq t) (tok t r) k).symm
  exact congrArg₂ (· + ·) (x_at m c t r k) (Finset.sum_congr rfl fun l _ => congrArg₂ (· * ·) (hg l) (wo_at m c t l k))
theorem block (i : Fin 1) : (outsAt0 m c t.val t.isLt).1 (ix3 i r k) = G0 m c (ix3 (sq t) (tok t r) k) := by
  by_cases h0 : t.val % 4 = 0
  · rw [outsAt0_A m c t h0 (by omega)]
    frame_out
    refine out_of m c t r k _ i fun l => z_of m c t r l _ _ _ _ _ _ _ ?_ ?_ ?_
    · exact (cov_at _ 6 512 _ r l ⟨6 + r.val, by omega⟩ rfl).trans (stageA m c t _ _ _ _ _ l h0 (by simp only []; omega) _ (by simp only []; omega))
    · exact (cov_at _ 7 512 _ r l ⟨7 + r.val, by omega⟩ rfl).trans (stageA m c t _ _ _ _ _ l h0 (by simp only []; omega) _ (by simp only []; omega))
    · exact (cov_at _ 8 512 _ r l ⟨8 + r.val, by omega⟩ rfl).trans (stageA m c t _ _ _ _ _ l h0 (by simp only []; omega) _ (by simp only []; omega))
  · by_cases h1 : t.val % 4 = 3
    · rw [outsAt0_C m c t h0 h1]
      frame_out
      refine out_of m c t r k _ i fun l => z_of m c t r l _ _ _ _ _ _ _ ?_ ?_ ?_
      · exact (load_at 6 512 _ _ r l ⟨6 + r.val, by omega⟩ rfl).trans (stageB m c t _ _ _ _ l h0 (by simp only []; omega) _ (by simp only []; omega) _ _)
      · exact (load_at 7 512 _ _ r l ⟨7 + r.val, by omega⟩ rfl).trans (stageB m c t _ _ _ _ l h0 (by simp only []; omega) _ (by simp only []; omega) _ _)
      · exact (cov_at _ 8 512 _ r l ⟨8 + r.val, by omega⟩ rfl).trans (stage_hi m c t _ _ _ _ l _ (by simp only []; omega) _ (by simp only []; omega))
    · rw [outsAt0_B m c t h0 h1]
      frame_out
      refine out_of m c t r k _ i fun l => z_of m c t r l _ _ _ _ _ _ _ ?_ ?_ ?_
      · exact (load_at 6 512 _ _ r l ⟨6 + r.val, by omega⟩ rfl).trans (stageB m c t _ _ _ _ l h0 (by simp only []; omega) _ (by simp only []; omega) _ _)
      · exact (load_at 7 512 _ _ r l ⟨7 + r.val, by omega⟩ rfl).trans (stageB m c t _ _ _ _ l h0 (by simp only []; omega) _ (by simp only []; omega) _ _)
      · exact (cov_at _ 8 512 _ r l ⟨8 + r.val, by omega⟩ rfl).trans (stage_hi m c t _ _ _ _ l _ (by simp only []; omega) _ (by simp only []; omega))
theorem tail (h1 : t.val % 4 = 3) (i : Fin 1) (s : Fin 2) : (outsAt0 m c t.val t.isLt).2.1 (ix3 i s k) = G1 m c (ix3 (sq t) s k) := by
  rw [outsAt0_C m c t (by omega) h1]
  frame_out
  refine (pay3_at _ i s k).trans ?_
  refine (cov_at _ 6 2 _ s k ⟨6 + s.val, by omega⟩ rfl).trans ?_
  refine (canon_top _ _ _ _ ⟨6 + s.val, by omega⟩ k rfl).trans ?_
  refine (pay2_at _ _ k).trans ?_
  refine (cov_at _ 512 8 _ _ k ⟨518 + s.val, by omega⟩ (by simp only []; omega)).trans ?_
  refine (canon_hi _ _ _ _ k (by simp only []; omega)).trans ?_
  refine (P_at m c t _ _ _ k).trans ?_
  exact (congrArg (fun x => u (H m c) (sq t) x k) (Fin.ext (by simp only []; omega))).trans (Cert.Reference9Ideal.Conv.v33_at _ (sq t) s k).symm
end Out

theorem final_x (c : Dev nD) : (dats m 0 c).arrAt 4 cfg0.N = G0 m c := by
  refine (dats m 0 c).arrAt_eq_of_covers 4 _ (by decide +kernel) fun t hf y => ?_
  blk_simp
  rw [after0_4]
  idx_vars y
  refine (block m c t y1 y2 y0).trans (congrArg (G0 m c) ?_)
  obtain rfl : y0 = 0 := by omega
  blk_ext [idx t]
theorem final_tail (c : Dev nD) : (dats m 0 c).arrAt 5 cfg0.N = G1 m c := by
  refine (dats m 0 c).arrAt_eq_of_covers 5 _ (by decide +kernel) fun t hf y => ?_
  have h1 : t.val % 4 = 3 := (flush0_5 t).mp hf
  blk_simp
  rw [after0_5]
  idx_vars y
  refine (tail m c t y2 h1 y0 y1).trans (congrArg (G1 m c) ?_)
  obtain rfl : y0 = 0 := by omega
  blk_ext [idx t]
end Cert.Kernel9Ideal.Conv
end
end
-- ==== Proof.NormPoint.lean ====
module
public import proofs.«01_k».proof.Proof.Gen.Kernel10Ideal.Frame
public import proofs.«01_k».proof.Proof.Gen.Reference10Ideal.Read
public import proofs.«01_k».proof.Proof.Gen.Kernel11Ideal.Frame
public import proofs.«01_k».proof.Proof.Gen.Reference11Ideal.Read
public import Idealize.ShloMosaic.Lib.Pipeline.ValueKit
public import Idealize.ShloMosaic.Lib.Claim
public import Idealize.ShloMosaic.Lib.Pipeline.ReadBack
public import proofs.«01_k».proof.Proof.MemRef
set_option maxRecDepth 16384
@[expose] public section
noncomputable section
open Idealize.ShloMosaic Idealize.ShloMosaic.TcCoe Idealize.SL.Sem
open Idealize.ShloMosaic.Pipeline (Dat)

namespace Cert.Reference10Ideal.Norm
open Cert.Reference10Ideal Cert.Reference10Ideal.Gen Cert.Reference10Ideal.Read Cert.Swi
/-- The reference's last normalisation at an index. -/
theorem out_at (x0 : FVec Ideal S16384x1024 .f32) (x1 : FVec Ideal S1024 .f32) (R : Fin 16384) (l : Fin 1024) :
    val_main_v12 (F := Ideal) x0 x1 (ix2 R l) = nrm (fun l => x0 (ix2 R l)) (fun l => x1 (ix1 l)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
end Cert.Reference10Ideal.Norm

namespace Cert.Kernel10Ideal.Norm
open Cert.Kernel10Ideal Cert.Kernel10Ideal.Gen Cert.Swi
variable (m : (ℓ : Loc nD τ sig) → Buf (Elt Ideal) ℓ)

theorem pay (x : FVec Ideal S1024x1024 .f32) (g : FVec Ideal S1x1024 .f32) (r : Fin 1024) (k : Fin 1024) :
    k0_pay1 (F := Ideal) x g (ix2 r k) = nrm (fun l => x (ix2 r l)) (fun l => g (ix2 0 l)) k := by
  pointwise [k0_pay1]
  rfl
theorem idx : ∀ t : Fin cfg0.N, win0_0.index t = ![t.val, 0] ∧ win0_1.index t = ![0, 0] ∧ win0_2.index t = ![t.val, 0] ∧ t.val < 16 :=
  (by decide +kernel : ∀ t : Fin grid0.N, _)
theorem x_at (c : Dev nD) (t : Fin cfg0.N) (r : Fin 1024) (l : Fin 1024) :
    iblk m c 0 t (ix2 r l) = m ((c : Thread nD τ).loc main_arg0) (ix2 ⟨t.val * 1024 + r.val, by have := (idx t).2.2.2; omega⟩ l) := by
  blk_ext [iblk, V_main_arg0, idx t]
theorem g_at (c : Dev nD) (t : Fin cfg0.N) (l : Fin 1024) :
    iblk m c 1 t (ix2 0 l) = m ((c : Thread nD τ).loc main_arg1) (ix1 l) := by
  blk_simp [iblk, idx t]
  entry_read
  pointwise
  blk_ext [idx t]
theorem out (c : Dev nD) (t : Fin cfg0.N) : out0_2 (iblk m c 0 t) (iblk m c 1 t) = k0_pay1 (iblk m c 0 t) (iblk m c 1 t) := by
  rw [out0_2]
  frame_out
/-- The normalised rows, from the reference. -/
def G (c : Dev nD) : FVec Ideal S16384x1024 .f32 :=
  Cert.Reference10Ideal.Read.val_main_v12 (F := Ideal) (m ((c : Thread nD τ).loc main_arg0)) (m ((c : Thread nD τ).loc main_arg1))
theorem final (c : Dev nD) : (dats m 0 c).arrAt 2 cfg0.N = G m c := by
  refine (dats m 0 c).arrAt_eq_of_covers 2 _ (by decide +kernel) fun t hf y => ?_
  blk_simp
  rw [after0_2, out]
  idx_vars y
  refine (pay _ _ y0 y1).trans ?_
  refine (?_ : _ = G m c (ix2 ⟨t.val * 1024 + y0.val, by have := (idx t).2.2.2; omega⟩ y1)).trans (congrArg (G m c) ?_)
  · refine Eq.trans ?_ (Cert.Reference10Ideal.Norm.out_at _ _ _ _).symm
    exact congrFun (congrArg₂ nrm (funext fun l => x_at m c t y0 l) (funext fun l => g_at m c t l)) y1
  · blk_ext [idx t]
end Cert.Kernel10Ideal.Norm

namespace Cert.Reference11Ideal.Norm
open Cert.Reference11Ideal Cert.Reference11Ideal.Gen Cert.Reference11Ideal.Read Cert.Swi
/-- The reference's last normalisation at an index. -/
theorem out_at (x0 : FVec Ideal S128x1024 .f32) (x1 : FVec Ideal S1024 .f32) (R : Fin 128) (l : Fin 1024) :
    val_main_v12 (F := Ideal) x0 x1 (ix2 R l) = nrm (fun l => x0 (ix2 R l)) (fun l => x1 (ix1 l)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
end Cert.Reference11Ideal.Norm

namespace Cert.Kernel11Ideal.Norm
open Cert.Kernel11Ideal Cert.Kernel11Ideal.Gen Cert.Swi
variable (m : (ℓ : Loc nD τ sig) → Buf (Elt Ideal) ℓ)

theorem pay (x : FVec Ideal S128x1024 .f32) (g : FVec Ideal S1x1024 .f32) (r : Fin 128) (k : Fin 1024) :
    k0_pay1 (F := Ideal) x g (ix2 r k) = nrm (fun l => x (ix2 r l)) (fun l => g (ix2 0 l)) k := by
  pointwise [k0_pay1]
  rfl
theorem idx : ∀ t : Fin cfg0.N, win0_0.index t = ![t.val, 0] ∧ win0_1.index t = ![0, 0] ∧ win0_2.index t = ![t.val, 0] ∧ t.val < 1 :=
  (by decide +kernel : ∀ t : Fin grid0.N, _)
theorem x_at (c : Dev nD) (t : Fin cfg0.N) (r : Fin 128) (l : Fin 1024) :
    iblk m c 0 t (ix2 r l) = m ((c : Thread nD τ).loc main_arg0) (ix2 ⟨t.val * 128 + r.val, by have := (idx t).2.2.2; omega⟩ l) := by
  blk_ext [iblk, V_main_arg0, idx t]
theorem g_at (c : Dev nD) (t : Fin cfg0.N) (l : Fin 1024) :
    iblk m c 1 t (ix2 0 l) = m ((c : Thread nD τ).loc main_arg1) (ix1 l) := by
  blk_simp [iblk, idx t]
  entry_read
  pointwise
  blk_ext [idx t]
theorem out (c : Dev nD) (t : Fin cfg0.N) : out0_2 (iblk m c 0 t) (iblk m c 1 t) = k0_pay1 (iblk m c 0 t) (iblk m c 1 t) := by
  rw [out0_2]
  frame_out
/-- The normalised rows, from the reference. -/
def G (c : Dev nD) : FVec Ideal S128x1024 .f32 :=
  Cert.Reference11Ideal.Read.val_main_v12 (F := Ideal) (m ((c : Thread nD τ).loc main_arg0)) (m ((c : Thread nD τ).loc main_arg1))
theorem final (c : Dev nD) : (dats m 0 c).arrAt 2 cfg0.N = G m c := by
  refine (dats m 0 c).arrAt_eq_of_covers 2 _ (by decide +kernel) fun t hf y => ?_
  blk_simp
  rw [after0_2, out]
  idx_vars y
  refine (pay _ _ y0 y1).trans ?_
  refine (?_ : _ = G m c (ix2 ⟨t.val * 128 + y0.val, by have := (idx t).2.2.2; omega⟩ y1)).trans (congrArg (G m c) ?_)
  · refine Eq.trans ?_ (Cert.Reference11Ideal.Norm.out_at _ _ _ _).symm
    exact congrFun (congrArg₂ nrm (funext fun l => x_at m c t y0 l) (funext fun l => g_at m c t l)) y1
  · blk_ext [idx t]
end Cert.Kernel11Ideal.Norm
end
end
-- ==== Proof.ConvStep.lean ====
module
public import proofs.«01_k».proof.Proof.Gen.Kernel12Ideal.Frame
public import proofs.«01_k».proof.Proof.Gen.Reference12Ideal.Read
public import Idealize.ShloMosaic.Lib.Pipeline.ValueKit
public import Idealize.ShloMosaic.Lib.Claim
public import Idealize.ShloMosaic.Lib.Pipeline.ReadBack
public import proofs.«01_k».proof.Proof.MemRef
set_option maxRecDepth 16384
@[expose] public section
noncomputable section
open Idealize.ShloMosaic Idealize.ShloMosaic.TcCoe Idealize.SL.Sem
open Idealize.ShloMosaic.Pipeline (Dat)

namespace Cert.Reference12Ideal.Step
open Cert.Reference12Ideal Cert.Reference12Ideal.Gen Cert.Reference12Ideal.Read
variable (x0 : FVec Ideal S128x3072 .f32) (x1 : FVec Ideal S128x1024 .f32) (x2 : FVec Ideal S1x128x2x1024 .f32) (x3 : FVec Ideal S1x3x1024 .f32) (x4 : FVec Ideal S1x1024x1024 .f32)
/-- The sample's gated input of the convolution. -/
def e (b : Fin 128) (k : Fin 1024) : EReal := x0 (ix2 b ⟨1024 + k.val, by omega⟩) * x0 (ix2 b ⟨2048 + k.val, by omega⟩)
/-- The convolution's output times the third gate. -/
def z (b : Fin 128) (k : Fin 1024) : EReal :=
  x0 (ix2 b ⟨k.val, by omega⟩) * (x3 (ix3 0 0 k) * x2 (ix4 0 b 0 k) + x3 (ix3 0 1 k) * x2 (ix4 0 b 1 k) + x3 (ix3 0 2 k) * e x0 b k)
theorem ext0 (b : Fin 128) (k : Fin 1024) : val_main_v6 (F := Ideal) x0 x2 (ix3 b 0 k) = x2 (ix4 0 b 0 k) := by
  pointwise [val_main_v6, val_main_v5, val_main_v4, val_main_v3, val_main_v2, val_main_v1, val_main_v0]
theorem ext1 (b : Fin 128) (k : Fin 1024) : val_main_v6 (F := Ideal) x0 x2 (ix3 b 1 k) = x2 (ix4 0 b 1 k) := by
  pointwise [val_main_v6, val_main_v5, val_main_v4, val_main_v3, val_main_v2, val_main_v1, val_main_v0]
theorem ext2 (b : Fin 128) (k : Fin 1024) : val_main_v6 (F := Ideal) x0 x2 (ix3 b 2 k) = e x0 b k := by
  pointwise [val_main_v6, val_main_v5, val_main_v4, val_main_v3, val_main_v2, val_main_v1, val_main_v0]
  rfl
theorem v30_at (b : Fin 128) (k : Fin 1024) : val_main_v30 (F := Ideal) x0 x2 x3 (ix3 b 0 k) = z x0 x2 x3 b k := by
  unfold z
  rw [← ext0 x0 x2 b k, ← ext1 x0 x2 b k, ← ext2 x0 x2 b k]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v1, val_main_v0, val_main_cst]
theorem out_at (b : Fin 128) (k : Fin 1024) :
    val_main_v34 (F := Ideal) x0 x1 x2 x3 x4 (ix2 b k) = x1 (ix2 b k) + ∑ l : Fin 1024, z x0 x2 x3 b l * x4 (ix3 0 l k) := by
  refine Eq.trans ?_ (congrArg (x1 (ix2 b k) + ·) (Finset.sum_congr rfl fun l _ => congrArg (· * x4 (ix3 0 l k)) (v30_at x0 x2 x3 b l)))
  pointwise [val_main_v34, val_main_v33, val_main_v32, val_main_v31]
theorem st_at (i : Fin 1) (b : Fin 128) (s : Fin 2) (k : Fin 1024) :
    val_main_v36 (F := Ideal) x0 x2 (ix4 i b s k) = if s.val = 0 then x2 (ix4 0 b 1 k) else e x0 b k := by
  have hs : s = 0 ∨ s = 1 := by omega
  rcases hs with rfl | rfl
  · rw [if_pos (by rfl), ← ext1 x0 x2 b k]
    pointwise [val_main_v36, val_main_v35]
  · rw [if_neg (by decide), ← ext2 x0 x2 b k]
    pointwise [val_main_v36, val_main_v35]
end Cert.Reference12Ideal.Step

namespace Cert.Kernel12Ideal.Step
open Cert.Kernel12Ideal Cert.Kernel12Ideal.Gen Cert.Reference12Ideal.Step
variable (m : (ℓ : Loc nD τ sig) → Buf (Elt Ideal) ℓ) (ρ : Dev nD → PrngReg)

theorem pay1_at (x y : FVec Ideal S128x1024 .f32) (r : Fin 128) (k : Fin 1024) : k0_pay1 (F := Ideal) x y (ix2 r k) = x (ix2 r k) * y (ix2 r k) := by
  pointwise [k0_pay1]
theorem pay2_at (x y : FVec Ideal S128x1024 .f32) (a : FVec Ideal S1x1024 .f32) (p : FVec Ideal S128x1024 .f32) (b : FVec Ideal S1x1024 .f32) (q : FVec Ideal S128x1024 .f32)
    (d : FVec Ideal S1x1024 .f32) (h r0 : FVec Ideal S128x1024 .f32) (w : FVec Ideal S1024x1024 .bf16) (r : Fin 128) (k : Fin 1024) :
    k0_pay2 (F := Ideal) x y a p b q d h r0 w (ix2 r k)
      = r0 (ix2 r k) + ∑ l : Fin 1024, h (ix2 r l) * (a (ix2 0 l) * p (ix2 r l) + b (ix2 0 l) * q (ix2 r l) + d (ix2 0 l) * (x (ix2 r l) * y (ix2 r l))) * w (ix2 l k) := by
  pointwise [k0_pay2]
  simp only [pay1_at]
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)
abbrev H (c : Dev nD) : FVec Ideal S128x3072 .f32 := m ((c : Thread nD τ).loc main_arg0)
abbrev ST (c : Dev nD) : FVec Ideal S1x128x2x1024 .f32 := m ((c : Thread nD τ).loc main_arg2)
abbrev CW (c : Dev nD) : FVec Ideal S1x3x1024 .f32 := m ((c : Thread nD τ).loc main_arg3)
theorem e_p0 (V : Valuation τ sig (Elt Ideal)) (b : Fin 128) (k : Fin 1024) :
    StableHlo.after hostOps0 V (Proc.devRef .tc main_v5) (ix2 b k) = V (Proc.devRef .tc main_arg2) (ix4 0 b 0 k) := by
  after_results
  pointwise
theorem e_p1 (V : Valuation τ sig (Elt Ideal)) (b : Fin 128) (k : Fin 1024) :
    StableHlo.after hostOps0 V (Proc.devRef .tc main_v7) (ix2 b k) = V (Proc.devRef .tc main_arg2) (ix4 0 b 1 k) := by
  after_results
  pointwise
theorem e_cw (V : Valuation τ sig (Elt Ideal)) (j : Fin 3) (k : Fin 1024) :
    StableHlo.after hostOps0 V (Proc.devRef .tc main_v1) (ix2 j k) = V (Proc.devRef .tc main_arg3) (ix3 0 j k) := by
  after_results
  pointwise
theorem e_wo (V : Valuation τ sig (Elt Ideal)) (l k : Fin 1024) :
    StableHlo.after hostOps0 V (Proc.devRef .tc main_v3) (ix2 l k) = V (Proc.devRef .tc main_arg4) (ix3 0 l k) := by
  after_results
  pointwise
theorem h_at (c : Dev nD) (t : Fin cfg0.N) (b : Fin 128) (k : Fin 3072) : iblk m c 0 t (ix2 b k) = H m c (ix2 b k) := by
  blk_ext [iblk, V_main_arg0, idx t]
theorem x_at (c : Dev nD) (t : Fin cfg0.N) (b : Fin 128) (k : Fin 1024) : iblk m c 1 t (ix2 b k) = m ((c : Thread nD τ).loc main_arg1) (ix2 b k) := by
  blk_ext [iblk, V_main_arg1, idx t]
theorem p0_at (c : Dev nD) (t : Fin cfg0.N) (b : Fin 128) (k : Fin 1024) : iblk m c 2 t (ix2 b k) = ST m c (ix4 0 b 0 k) := by
  refine Eq.trans ?_ (e_p0 (fun b => m (c, b)) b k)
  blk_ext [iblk, idx t]
theorem p1_at (c : Dev nD) (t : Fin cfg0.N) (b : Fin 128) (k : Fin 1024) : iblk m c 3 t (ix2 b k) = ST m c (ix4 0 b 1 k) := by
  refine Eq.trans ?_ (e_p1 (fun b => m (c, b)) b k)
  blk_ext [iblk, idx t]
theorem cw_at (c : Dev nD) (t : Fin cfg0.N) (j : Fin 3) (k : Fin 1024) : iblk m c 4 t (ix2 j k) = CW m c (ix3 0 j k) := by
  refine Eq.trans ?_ (e_cw (fun b => m (c, b)) j k)
  blk_ext [iblk, idx t]
theorem wo_at (c : Dev nD) (t : Fin cfg0.N) (l k : Fin 1024) : iblk m c 5 t (ix2 l k) = m ((c : Thread nD τ).loc main_arg4) (ix3 0 l k) := by
  refine Eq.trans ?_ (e_wo (fun b => m (c, b)) l k)
  blk_ext [iblk, idx t]
theorem lanes (c : Dev nD) (t : Fin cfg0.N) (o : ℕ) (io : ∀ a : Fin S128x3072.rank, (![0, o] : Fin 2 → ℕ) a + S128x1024.size a ≤ S128x3072.size a)
    (r : Fin 128) (k : Fin 1024) (q : Fin 3072) (h : q.val = o + k.val) :
    View.ld (Val := Elt Ideal) (e' := .f32) (iblk m c 0 t) (Rect.unit (s := S128x3072) ![0, o] S128x1024.size io) (ix2 r k) = H m c (ix2 r q) :=
  (View.ld_unit_apply_of (Val := Elt Ideal) (e := .f32) (iblk m c 0 t) _ _ io (ix2 r k) (ix2 r q) (Fin.forall_fin_two.mpr ⟨(Nat.zero_add _).symm, h⟩)).trans (h_at m c t r q)
theorem tap (c : Dev nD) (t : Fin cfg0.N) (o : Fin 3) (io : ∀ a : Fin S3x1024.rank, (![o.val, 0] : Fin 2 → ℕ) a + S1x1024.size a ≤ S3x1024.size a) (k : Fin 1024) :
    View.ld (Val := Elt Ideal) (e' := .f32) (iblk m c 4 t) (Rect.unit (s := S3x1024) ![o.val, 0] S1x1024.size io) (ix2 0 k) = CW m c (ix3 0 o k) :=
  (View.ld_unit_apply_of (Val := Elt Ideal) (e := .f32) (iblk m c 4 t) _ _ io (ix2 0 k) (ix2 o k) (Fin.forall_fin_two.mpr ⟨rfl, (Nat.zero_add _).symm⟩)).trans (cw_at m c t o k)
/-- The residual stream after the convolution, and the new state, from the reference. -/
def G0 (c : Dev nD) : FVec Ideal S128x1024 .f32 := Cert.Reference12Ideal.Read.val_main_v34 (F := Ideal) (H m c) (m ((c : Thread nD τ).loc main_arg1)) (ST m c) (CW m c) (m ((c : Thread nD τ).loc main_arg4))
def G1 (c : Dev nD) : FVec Ideal S1x128x2x1024 .f32 := Cert.Reference12Ideal.Read.val_main_v36 (F := Ideal) (H m c) (ST m c)
def E (c : Dev nD) : FVec Ideal S128x1024 .f32 := fun y => e (H m c) (y 0) (y 1)
theorem out6 (c : Dev nD) (t : Fin cfg0.N) (r : Fin 128) (k : Fin 1024) :
    out0_6 (iblk m c 0 t) (iblk m c 1 t) (iblk m c 2 t) (iblk m c 3 t) (iblk m c 4 t) (iblk m c 5 t) (ix2 r k) = G0 m c (ix2 r k) := by
  rw [out0_6]
  frame_out
  refine (pay2_at _ _ _ _ _ _ _ _ _ _ r k).trans ?_
  refine Eq.trans ?_ (Cert.Reference12Ideal.Step.out_at _ _ _ _ _ r k).symm
  exact congrArg₂ (· + ·) (x_at m c t r k) (Finset.sum_congr rfl fun l _ => congrArg₂ (· * ·)
    (congrArg₂ (· * ·) (lanes m c t 0 _ r l _ (by simp only []; omega))
      (congrArg₂ (· + ·) (congrArg₂ (· + ·) (congrArg₂ (· * ·) (tap m c t 0 _ l) (p0_at m c t r l)) (congrArg₂ (· * ·) (tap m c t 1 _ l) (p1_at m c t r l)))
        (congrArg₂ (· * ·) (tap m c t 2 _ l) (congrArg₂ (· * ·) (lanes m c t 1024 _ r l _ rfl) (lanes m c t 2048 _ r l _ rfl)))))
    (wo_at m c t l k))
theorem out7 (c : Dev nD) (t : Fin cfg0.N) (r : Fin 128) (k : Fin 1024) :
    out0_7 (iblk m c 0 t) (iblk m c 1 t) (iblk m c 2 t) (iblk m c 3 t) (iblk m c 4 t) (iblk m c 5 t) (ix2 r k) = E m c (ix2 r k) := by
  rw [out0_7]
  frame_out
  exact (pay1_at _ _ r k).trans (congrArg₂ (· * ·) (lanes m c t 1024 _ r k _ rfl) (lanes m c t 2048 _ r k _ rfl))
theorem final_x (c : Dev nD) : (dats m 0 c).arrAt 6 cfg0.N = G0 m c := by
  refine (dats m 0 c).arrAt_eq_of_covers 6 _ (by decide +kernel) fun t hf y => ?_
  blk_simp
  rw [after0_6]
  idx_vars y
  refine (out6 m c t y0 y1).trans (congrArg (G0 m c) ?_)
  blk_ext [idx t]
theorem final_e (c : Dev nD) : (dats m 0 c).arrAt 7 cfg0.N = E m c := by
  refine (dats m 0 c).arrAt_eq_of_covers 7 _ (by decide +kernel) fun t hf y => ?_
  blk_simp
  rw [after0_7]
  idx_vars y
  refine (out7 m c t y0 y1).trans (congrArg (E m c) ?_)
  blk_ext [idx t]
/-- What the host's lines after the call start from. -/
def Z (c : Dev nD) : Valuation τ sig (Elt Ideal) := Pipeline.withArrays (cfgs 0).spec c (V0 m c) fun w => (dats m 0 c).arrAt w (cfgs 0).N
theorem Z_e (c : Dev nD) : Z m c (Proc.devRef .tc main_v8_1) = E m c :=
  (Pipeline.withArrays_arr spec0 (by decide) c (V0 m c) (fun w => (dats m 0 c).arrAt w (cfgs 0).N) 7).trans (final_e m c)
theorem Z_s (c : Dev nD) : Z m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)
theorem t_st (V : Valuation τ sig (Elt Ideal)) (i : Fin 1) (b : Fin 128) (s : Fin 2) (k : Fin 1024) :
    StableHlo.after hostOps1 V (Proc.devRef .tc main_v13) (ix4 i b s k)
      = if s.val = 0 then V (Proc.devRef .tc main_arg2) (ix4 0 b 1 k) else V (Proc.devRef .tc main_v8_1) (ix2 b k) := by
  have hs : s = 0 ∨ s = 1 := by omega
  rcases hs with rfl | rfl
  · rw [if_pos (by rfl)]
    after_results
    pointwise
  · rw [if_neg (by decide)]
    after_results
    pointwise
theorem final_st (c : Dev nD) : StableHlo.after [hostOps1].flatten (Z m c) (Proc.devRef .tc main_v13) = G1 m c := by
  funext y
  idx_vars y
  refine (t_st (Z m c) y0 y1 y2 y3).trans ?_
  rw [Z_e, Z_s]
  exact (Cert.Reference12Ideal.Step.st_at _ _ y0 y1 y2 y3).symm
theorem run : θ_run defs (onTc (τ := τ) (main (F := Ideal))) ⟨m, fun _ => 0, ρ⟩ (fun r => ∀ c : Dev nD,
      r.2.mem ((c : Thread nD τ).loc main_v8_0) = (dats m 0 c).arrAt 6 cfg0.N
      ∧ r.2.mem ((c : Thread nD τ).loc main_v13) = StableHlo.after [hostOps1].flatten (Z m c) (Proc.devRef .tc main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1 6,
      (h c).2 main_v13 (Pipeline.mem_restRefs_of main_v13 (by decide) (by decide)),
      ((h c).1 0).trans (((dats m 0 c).arrAt_in 0 rfl cfg0.N).trans ((A_eq m c 0).trans (V_main_arg0 m c))),
      ((h c).1 1).trans (((dats m 0 c).arrAt_in 1 rfl cfg0.N).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)
end Cert.Kernel12Ideal.Step
end
end
-- ==== Proof.RouterSpec.lean ====
module
public import Idealize.ShloMosaic.Lib.Pointwise
public import Idealize.ShloMosaic.Lib.SortFacts
public import proofs.«01_k».proof.Proof.SwiSpec
set_option maxRecDepth 16384
@[expose] public section
noncomputable section
open Idealize.ShloMosaic

/-! The two greatest of eight numbers, ties to the lower place: as a stable sort finds them and as two rounds of
    "maximum, then first place of the maximum" find them. And which numbers of a normalised row are real. -/
namespace Cert.Rt

/-- `a` comes before `b`: its number is greater, or the numbers are equal and `a` is the lower place. -/
def Ahead {n : ℕ} (p : Fin n → EReal) (a b : Fin n) : Prop := p b < p a ∨ (p a = p b ∧ a < b)

theorem ahead_le {n : ℕ} {p : Fin n → EReal} {a b : Fin n} (h : Ahead p a b) : p b ≤ p a := by
  rcases h with h | h
  · exact h.le
  · exact h.1.ge

/-- The comparison "greater number first". -/
abbrev gtf {n : ℕ} (p : Fin n → EReal) (x y : Fin n) : Bool := decide (p y < p x)

/-- Inserting a place lower than all places of an ordered list keeps it ordered. -/
theorem insert_ahead {n : ℕ} (p : Fin n → EReal) (a : Fin n) : ∀ l : List (Fin n), (∀ b ∈ l, a < b) → l.Pairwise (Ahead p) →
    (insertBefore (gtf p) a l).Pairwise (Ahead p)
  | [], _, _ => List.pairwise_singleton _ _
  | b :: l, ha, hl => by
    have hb := (List.pairwise_cons.mp hl).1
    have hab : a < b := ha b (List.mem_cons_self ..)
    by_cases h : p a < p b
    · have e : insertBefore (gtf p) a (b :: l) = b :: insertBefore (gtf p) a l := if_pos (decide_eq_true h)
      rw [e, List.pairwise_cons]
      refine ⟨fun x hx => ?_, insert_ahead p a l (fun x hx => ha x (List.mem_cons_of_mem _ hx)) (List.pairwise_cons.mp hl).2⟩
      rcases List.mem_cons.mp ((perm_insertBefore (gtf p) a l).mem_iff.mp hx) with rfl | hx
      · exact Or.inl h
      · exact hb x hx
    · have e : insertBefore (gtf p) a (b :: l) = a :: b :: l := if_neg (by simpa using h)
      rw [e, List.pairwise_cons]
      refine ⟨fun x hx => ?_, hl⟩
      have hle : p x ≤ p a := (List.mem_cons.mp hx).elim (fun e => e ▸ not_lt.mp h) fun hx => (ahead_le (hb x hx)).trans (not_lt.mp h)
      rcases hle.lt_or_eq with h1 | h1
      · exact Or.inl h1
      · exact Or.inr ⟨h1.symm, ha x hx⟩

theorem sort_ahead {n : ℕ} (p : Fin n → EReal) : ∀ l : List (Fin n), l.Pairwise (· < ·) → (stableSort (gtf p) l).Pairwise (Ahead p)
  | [], _ => List.Pairwise.nil
  | a :: l, hl => insert_ahead p a _ (fun b hb => (List.pairwise_cons.mp hl).1 b ((perm_stableSort _ l).mem_iff.mp hb))
      (sort_ahead p l (List.pairwise_cons.mp hl).2)

/-- Places of the sorted list are in order. -/
theorem sorted_ahead {n : ℕ} (p : Fin n → EReal) (i j : Fin n) (h : i < j) : Ahead p (sortedFrom (gtf p) i) (sortedFrom (gtf p) j) :=
  List.pairwise_iff_get.mp (sort_ahead p _ (List.pairwise_lt_finRange n)) _ _ h

/-- `a` and `b` are the first two places. -/
structure Top (p : Fin 8 → EReal) (a b : Fin 8) : Prop where
  ne : a ≠ b
  fst : ∀ k, k ≠ a → Ahead p a k
  snd : ∀ k, k ≠ a → k ≠ b → Ahead p b k

theorem top_sorted (p : Fin 8 → EReal) : Top p (sortedFrom (gtf p) 0) (sortedFrom (gtf p) 1) where
  ne h := absurd (sortedFrom_injective _ h) (by decide)
  fst k hk := by
    obtain ⟨j, rfl⟩ := sortedFrom_surjective (gtf p) k
    exact sorted_ahead p 0 j (by
      have : j ≠ 0 := fun e => hk (by rw [e])
      omega)
  snd k hk hk' := by
    obtain ⟨j, rfl⟩ := sortedFrom_surjective (gtf p) k
    exact sorted_ahead p 1 j (by
      have h0 : j ≠ 0 := fun e => hk (by rw [e])
      have h1 : j ≠ 1 := fun e => hk' (by rw [e])
      omega)

/-- The maximum of a family with a greatest member. -/
theorem fold_max {n : ℕ} (f : Fin n → EReal) (A : Fin n) (h : ∀ k, f k ≤ f A) : Finset.fold max ⊥ f Finset.univ = f A :=
  le_antisymm ((Finset.fold_max_le _).mpr ⟨bot_le, fun k _ => h k⟩) ((Finset.le_fold_max _).mpr (Or.inr ⟨A, Finset.mem_univ _, le_rfl⟩))

theorem minsi_int (a b : BitVec 32) : (IntOp.minsi a b).toInt = min a.toInt b.toInt := by
  unfold IntOp.minsi
  rw [BitVec.slt_eq_decide]
  by_cases h : a.toInt < b.toInt
  · rw [decide_eq_true h, if_pos rfl, min_eq_left h.le]
  · rw [decide_eq_false h, if_neg (by decide), min_eq_right (not_lt.mp h)]

theorem lane_int (k : ℕ) (h : k ≤ 128) : (BitVec.ofNat 32 k).toInt = k := by
  rw [BitVec.toInt_ofNat']
  simp only [Int.bmod]
  omega

/-- The least lane at which a family has the value `M`. -/
theorem fold_first (f : Fin 128 → EReal) (M : EReal) (A : Fin 128) (hA : f A = M) (h : ∀ k, f k = M → A ≤ k) :
    Finset.fold IntOp.minsi 2147483647#32 (fun k : Fin 128 => if f k = M then BitVec.ofNat 32 k.val else 128#32) Finset.univ = BitVec.ofNat 32 A.val := by
  apply BitVec.eq_of_toInt_eq
  rw [← Finset.fold_hom (op' := min) (m := BitVec.toInt) minsi_int, lane_int _ A.isLt.le]
  refine le_antisymm ((Finset.fold_min_le _).mpr (Or.inr ⟨A, Finset.mem_univ _, ?_⟩)) ((Finset.le_fold_min _).mpr ⟨?_, fun k _ => ?_⟩)
  · rw [if_pos hA, lane_int _ A.isLt.le]
  · have := A.isLt
    have e : (2147483647#32 : BitVec 32).toInt = 2147483647 := by decide
    omega
  · by_cases hk : f k = M
    · rw [if_pos hk, lane_int _ k.isLt.le]
      exact_mod_cast h k hk
    · rw [if_neg hk]
      have := A.isLt
      have e : (128#32 : BitVec 32).toInt = 128 := by decide
      omega

/-- A value that is a real number. -/
def IsR (x : EReal) : Prop := ∃ r : ℝ, x = (r : EReal)
theorem isR_of {x : EReal} (h : x ≠ ⊥) (h' : x ≠ ⊤) : IsR x := ⟨x.toReal, (EReal.coe_toReal h' h).symm⟩
theorem isR_abs {x : EReal} (h : max x (-x) < ⊤) : IsR x := by
  refine isR_of (fun e => ?_) fun e => ?_
  · subst e; simp at h
  · subst e; simp at h
theorem IsR.ne_bot {x : EReal} (h : IsR x) : x ≠ ⊥ := by obtain ⟨r, rfl⟩ := h; exact EReal.coe_ne_bot r
theorem IsR.add {x y : EReal} (h : IsR x) (h' : IsR y) : IsR (x + y) := by
  obtain ⟨a, rfl⟩ := h; obtain ⟨b, rfl⟩ := h'; exact ⟨a + b, (EReal.coe_add a b).symm⟩
theorem IsR.mul {x y : EReal} (h : IsR x) (h' : IsR y) : IsR (x * y) := by
  obtain ⟨a, rfl⟩ := h; obtain ⟨b, rfl⟩ := h'; exact ⟨a * b, (EReal.coe_mul a b).symm⟩
theorem IsR.self_sub {x : EReal} (h : IsR x) : x - x = 0 := by
  obtain ⟨a, rfl⟩ := h; rw [← EReal.coe_sub, sub_self, EReal.coe_zero]
theorem isR_sum {n : ℕ} (f : Fin n → EReal) (h : ∀ i, IsR (f i)) : IsR (∑ i, f i) :=
  Finset.sum_induction f IsR (fun _ _ => IsR.add) ⟨0, EReal.coe_zero.symm⟩ fun i _ => h i
theorem sq_sum {n : ℕ} (f : Fin n → EReal) (h : ∀ i, IsR (f i)) : ∃ r : ℝ, 0 ≤ r ∧ ∑ i, f i * f i = (r : EReal) := by
  refine Finset.sum_induction (fun i => f i * f i) (fun x => ∃ r : ℝ, 0 ≤ r ∧ x = (r : EReal)) ?_ ⟨0, le_rfl, EReal.coe_zero.symm⟩ fun i _ => ?_
  · rintro _ _ ⟨a, ha, rfl⟩ ⟨b, hb, rfl⟩
    exact ⟨a + b, add_nonneg ha hb, (EReal.coe_add a b).symm⟩
  · obtain ⟨a, ha⟩ := h i
    exact ⟨a * a, mul_self_nonneg a, by rw [ha, EReal.coe_mul]⟩
theorem c_lanes : Ideal.ofBits .f32 1149239296#32 = ((1024 : ℝ) : EReal) := by
  simp [Ideal.ofBits, Ideal.ieee, -EReal.coe_mul]; norm_num
theorem c_eps : ∃ e : ℝ, 0 < e ∧ Ideal.ofBits .f32 897988541#32 = (e : EReal) := by
  simp only [Ideal.ofBits, Ideal.ieee]
  rw [if_neg (by decide), if_neg (by decide)]
  refine ⟨_, ?_, rfl⟩
  rw [if_neg (by decide)]
  positivity
theorem c_inf : Ideal.ofBits .f32 2139095040#32 = ⊤ := by
  simp [Ideal.ofBits, Ideal.ieee]
theorem c_ninf : Ideal.ofBits .f32 4286578688#32 = ⊥ := by
  simp [Ideal.ofBits, Ideal.ieee]
/-- A normalised row of real numbers is real. -/
theorem nrm_real (x g : Fin 1024 → EReal) (hx : ∀ i, IsR (x i)) (hg : ∀ i, IsR (g i)) (l : Fin 1024) : IsR (Cert.Swi.nrm x g l) := by
  refine ((hx l).mul ?_).mul (hg l)
  obtain ⟨s, hs, es⟩ := sq_sum x hx
  obtain ⟨e, he, ee⟩ := c_eps
  rw [es, ee, c_lanes, Ideal.div, if_neg (by exact_mod_cast (by norm_num : (1024 : ℝ) ≠ 0)), ← EReal.coe_inv, ← EReal.coe_mul, ← EReal.coe_add, Ideal.rsqrt_coe]
  have hp : 0 < s * (1024 : ℝ)⁻¹ + e := by positivity
  rw [if_neg (not_lt.mpr hp.le), if_neg hp.ne']
  exact ⟨_, rfl⟩
/-- The product split into parts is the product: over the reals the first part is the number and the other parts are zero. -/
theorem split {n : ℕ} (a w : Fin n → EReal) (ha : ∀ i, IsR (a i)) (hw : ∀ i, IsR (w i)) :
    ∑ i, a i * w i + (∑ i, a i * (w i - w i) + ∑ i, (a i - a i) * w i)
      + (∑ i, (a i - a i) * (w i - w i) + ∑ i, a i * (w i - w i - (w i - w i)) + ∑ i, (a i - a i - (a i - a i)) * w i) = ∑ i, a i * w i := by
  simp only [fun i => (ha i).self_sub, fun i => (hw i).self_sub, sub_zero, mul_zero, zero_mul, Finset.sum_const_zero, add_zero]

/-- The gate of lane `k`: the first place's, the second place's, or none. -/
def gate (p : Fin 8 → EReal) (a b k : Fin 8) : EReal :=
  (if k = a then Ideal.div 1 (1 + Ideal.exp (p b - p a)) else 0) + if k = b then Ideal.div (Ideal.exp (p b - p a)) (1 + Ideal.exp (p b - p a)) else 0

/-- The eight numbers on the first lanes of 128. -/
def wide (p : Fin 8 → EReal) (k : Fin 128) : EReal := if h : k.val < 8 then p ⟨k.val, h⟩ else ⊥
abbrev lane (a : Fin 8) : Fin 128 := ⟨a.val, by omega⟩
theorem wide_lane (p : Fin 8 → EReal) (a : Fin 8) : wide p (lane a) = p a := dif_pos a.isLt
section two
variable {p : Fin 8 → EReal} {a b : Fin 8} (t : Top p a b) (hp : ∀ k, IsR (p k))
include t
theorem max1 : Finset.fold max ⊥ (wide p) Finset.univ = p a := by
  rw [fold_max (wide p) (lane a) fun k => ?_, wide_lane]
  rw [wide_lane]
  unfold wide
  split
  · by_cases e : (⟨k.val, by assumption⟩ : Fin 8) = a
    · rw [e]
    · exact ahead_le (t.fst _ e)
  · exact bot_le
/-- The numbers without the first place's. -/
def rest (p : Fin 8 → EReal) (a : Fin 8) (k : Fin 128) : EReal := if k.val = a.val then ⊥ else wide p k
theorem rest_b : rest p a (lane b) = p b := by
  unfold rest
  rw [if_neg fun e => t.ne (Fin.ext e.symm), wide_lane]
theorem max2 : Finset.fold max ⊥ (rest p a) Finset.univ = p b := by
  rw [fold_max (rest p a) (lane b) fun k => ?_, rest_b t]
  rw [rest_b t]
  unfold rest wide
  split
  · exact bot_le
  · rename_i hk
    split
    · rename_i h8
      by_cases e : (⟨k.val, h8⟩ : Fin 8) = b
      · rw [e]
      · exact ahead_le (t.snd _ (fun e => hk (congrArg Fin.val e)) e)
    · exact bot_le
include hp
theorem first1 (k : Fin 128) (h : wide p k = p a) : lane a ≤ k := by
  unfold wide at h
  split at h
  · rename_i h8
    by_cases e : (⟨k.val, h8⟩ : Fin 8) = a
    · exact (congrArg Fin.val e).ge
    · rcases t.fst _ e with h' | h'
      · exact absurd h h'.ne
      · exact le_of_lt h'.2
  · exact absurd h.symm (hp a).ne_bot
theorem first2 (k : Fin 128) (h : rest p a k = p b) : lane b ≤ k := by
  unfold rest wide at h
  split at h
  · exact absurd h.symm (hp b).ne_bot
  · rename_i hk
    split at h
    · rename_i h8
      by_cases e : (⟨k.val, h8⟩ : Fin 8) = b
      · exact (congrArg Fin.val e).ge
      · rcases t.snd _ (fun e => hk (congrArg Fin.val e)) e with h' | h'
        · exact absurd h h'.ne
        · exact le_of_lt h'.2
    · exact absurd h.symm (hp b).ne_bot
end two
end Cert.Rt
end
end
-- ==== Proof.RouterTop.lean ====
module
public import proofs.«01_k».proof.Proof.Gen.Reference13Ideal.Read
public import Idealize.ShloMosaic.Lib.Pipeline.ValueKit
public import Idealize.ShloMosaic.Lib.Claim
set_option maxRecDepth 16384
@[expose] public section
noncomputable section
open Idealize.ShloMosaic Idealize.ShloMosaic.TcCoe Idealize.SL.Sem
namespace Cert.Reference13Ideal.Router
open Cert.Reference13Ideal Cert.Reference13Ideal.Gen
theorem along (R : Fin 16384) (q k : Fin 8) : (ix2 R q : S16384x8.Idx).along 1 k = ix2 R k := by
  funext a
  match a with
  | ⟨0, _⟩ => rfl
  | ⟨1, _⟩ => rfl
/-- Sorting the columns with their numbers, read at one place of a row. -/
theorem sorted_at (cmp : EReal × BitVec 32 → EReal × BitVec 32 → BitVec 1) (x : FVec Ideal S16384x8 .f32) (y : IVec S16384x8 32) (R : Fin 16384) (q : Fin 8) :
    (Host.sort2 S16384x8 1 cmp x y).1 (ix2 R q) = x (ix2 R (sortedFrom (fun k k' : Fin 8 => cmp (x (ix2 R k), y (ix2 R k)) (x (ix2 R k'), y (ix2 R k')) == 1#1) q))
    ∧ (Host.sort2 S16384x8 1 cmp x y).2 (ix2 R q) = y (ix2 R (sortedFrom (fun k k' : Fin 8 => cmp (x (ix2 R k), y (ix2 R k)) (x (ix2 R k'), y (ix2 R k')) == 1#1) q)) := by
  have e : (fun k k' : Fin 8 => cmp (x ((ix2 R q : S16384x8.Idx).along 1 k), y ((ix2 R q : S16384x8.Idx).along 1 k)) (x ((ix2 R q : S16384x8.Idx).along 1 k'), y ((ix2 R q : S16384x8.Idx).along 1 k')) == 1#1)
      = (fun k k' : Fin 8 => cmp (x (ix2 R k), y (ix2 R k)) (x (ix2 R k'), y (ix2 R k')) == 1#1) := by
    funext k k'
    rw [along, along]
  unfold Host.sort2
  rw [dif_pos (by decide)]
  constructor
  · refine Eq.trans ?_ (congrArg x (along R q _))
    rw [← e]
    rfl
  · refine Eq.trans ?_ (congrArg y (along R q _))
    rw [← e]
    rfl
theorem top_at (x : FVec Ideal S16384x8 .f32) (h) (R : Fin 16384) (j : Fin 2) (g : Fin 8 → Fin 8 → Bool)
    (hg : (fun k k' : Fin 8 => FloatOps.cmpfTotal (F := Ideal) (φ := .f32) .gt (x (ix2 R k)) (x (ix2 R k')) == 1#1) = g) :
    (Host.topK S16384x2 1 (FloatOps.cmpfTotal (F := Ideal) (φ := .f32) .gt) x h).1 (ix2 R j) = x (ix2 R (sortedFrom g ⟨j.val, by omega⟩))
    ∧ (Host.topK S16384x2 1 (FloatOps.cmpfTotal (F := Ideal) (φ := .f32) .gt) x h).2 (ix2 R j) = BitVec.ofNat 32 (sortedFrom g ⟨j.val, by omega⟩).val := by
  subst hg
  unfold Host.topK
  constructor
  · refine Eq.trans ?_ ((sorted_at (fun l r => FloatOps.cmpfTotal (F := Ideal) (φ := .f32) .gt l.1 r.1) x (fun i => if hd : 1 < S16384x8.rank then iotaInDim S16384x8 32 ⟨1, hd⟩ i else 0#32) R ⟨j.val, by omega⟩).1)
    dsimp only
    generalize (Host.sort2 S16384x8 1 _ x _).1 = z
    pointwise
  · refine Eq.trans ?_ ((sorted_at (fun l r => FloatOps.cmpfTotal (F := Ideal) (φ := .f32) .gt l.1 r.1) x (fun i => if hd : 1 < S16384x8.rank then iotaInDim S16384x8 32 ⟨1, hd⟩ i else 0#32) R ⟨j.val, by omega⟩).2.trans ?_)
    · dsimp only
      generalize (Host.sort2 S16384x8 1 _ x _).2 = z
      pointwise
    · rw [dif_pos (by decide)]
      rfl
end Cert.Reference13Ideal.Router
end
end
-- ==== Proof.RouterPoint.lean ====
module
public import proofs.«01_k».proof.Proof.Gen.Kernel13Ideal.Frame
public import proofs.«01_k».proof.Proof.Gen.Reference13Ideal.Read
public import proofs.«01_k».proof.Pre_finite
public import Idealize.ShloMosaic.Lib.Pipeline.ValueKit
public import Idealize.ShloMosaic.Lib.Claim
public import Idealize.ShloMosaic.Lib.Pipeline.ReadBack
public import Idealize.ShloMosaic.Lib.Routing.OpsSet
public import Idealize.ShloMosaic.Lib.Routing.OpsPair
public import proofs.«01_k».proof.Proof.MemRef
public import proofs.«01_k».proof.Proof.RouterSpec
public import proofs.«01_k».proof.Proof.RouterTop
set_option maxRecDepth 16384
@[expose] public section
noncomputable section
open Idealize.ShloMosaic Idealize.ShloMosaic.TcCoe Idealize.SL.Sem
open Idealize.ShloMosaic.Pipeline (Dat)

namespace Cert.Rt
/-- A choice by equal lanes. -/
theorem sel_eq {α : Type} (k a : ℕ) (hk : k < 128) (ha : a < 128) (x y : α) :
    Scalar.select (IntOp.cmpi .eq (BitVec.ofNat 32 k) (BitVec.ofNat 32 a)) x y = if k = a then x else y := by
  have e : BitVec.ofNat 32 k = BitVec.ofNat 32 a ↔ k = a := by
    constructor
    · intro h
      have := congrArg BitVec.toNat h
      simp only [BitVec.toNat_ofNat] at this
      omega
    · rintro rfl; rfl
  by_cases h : k = a
  · subst h; simp [Scalar.select, IntOp.cmpi]
  · rw [if_neg h]
    have f : (BitVec.ofNat 32 k == BitVec.ofNat 32 a) = false := beq_eq_false_iff_ne.mpr (mt e.mp h)
    unfold Scalar.select IntOp.cmpi
    simp only [f]
    rfl
theorem sel_lt {α : Type} (k : ℕ) (hk : k < 128) (x y : α) :
    Scalar.select (IntOp.cmpi .slt (BitVec.ofNat 32 k) 8#32) x y = if k < 8 then x else y := by
  have e : (BitVec.ofNat 32 k).slt 8#32 = decide (k < 8) := by
    rw [BitVec.slt_eq_decide, lane_int k hk.le]
    have : (8#32 : BitVec 32).toInt = 8 := by decide
    rw [this]
    exact decide_eq_decide.mpr (by omega)
  by_cases h : k < 8 <;> simp [Scalar.select, IntOp.cmpi, e, h]
theorem bit_eq (k a : ℕ) (hk : k < 128) (ha : a < 128) : IntOp.cmpi .eq (BitVec.ofNat 32 k) (BitVec.ofNat 32 a) = if k = a then 1#1 else 0#1 := by
  have h := sel_eq k a hk ha (1#1 : BitVec 1) 0#1
  rw [← h]
  unfold Scalar.select
  generalize IntOp.cmpi .eq (BitVec.ofNat 32 k) (BitVec.ofNat 32 a) = z
  revert z
  decide
end Cert.Rt

namespace Cert.Kernel13Ideal.Router
open Cert.Kernel13Ideal Cert.Kernel13Ideal.Gen Cert.Swi Cert.Rt
section row
variable {d : FVec Ideal S512x128 .f32} {b : FVec Ideal S1x128 .f32} {r : Fin 512} {p : Fin 8 → EReal} {u v : Fin 8}
  (hq : ∀ k, k0_pay3 (F := Ideal) d b (ix2 r k) = wide p k) (t : Top p u v) (hp : ∀ k, IsR (p k))
include hq t
theorem pay4_at : k0_pay4 (F := Ideal) d b (ix2 r 0) = p u := by
  pointwise [k0_pay4]
  rw [c_ninf, funext hq]
  exact max1 t
include hp
theorem pay5_at : k0_pay5 (F := Ideal) d b (ix2 r 0) = BitVec.ofNat 32 u.val := by
  pointwise [k0_pay5]
  simp only [hq, pay4_at hq t]
  exact fold_first (wide p) (p u) (lane u) (wide_lane p u) (first1 t hp)
theorem pay6_at (k : Fin 128) : k0_pay6 (F := Ideal) d b (ix2 r k) = rest p u k := by
  pointwise [k0_pay6]
  rw [pay5_at hq t hp, hq, c_ninf]
  exact sel_eq _ _ k.isLt (by omega) _ _
theorem pay7_at : k0_pay7 (F := Ideal) d b (ix2 r 0) = p v := by
  pointwise [k0_pay7]
  rw [c_ninf, funext (pay6_at hq t hp)]
  exact max2 t
theorem pay8_at : k0_pay8 (F := Ideal) d b (ix2 r 0) = Ideal.exp (p v - p u) := by
  pointwise [k0_pay8]
  rw [pay7_at hq t hp, pay4_at hq t]
theorem pay9_at : k0_pay9 (F := Ideal) d b (ix2 r 0) = 1 + Ideal.exp (p v - p u) := by
  pointwise [k0_pay9]
  rw [pay8_at hq t hp]
theorem pay10_at (k : Fin 128) : k0_pay10 (F := Ideal) d b (ix2 r k) = if k.val = u.val then Ideal.div 1 (1 + Ideal.exp (p v - p u)) else 0 := by
  pointwise [k0_pay10]
  rw [pay5_at hq t hp, pay9_at hq t hp]
  exact sel_eq _ _ k.isLt (by omega) _ _
theorem pay11_at (k : Fin 128) : k0_pay11 (F := Ideal) d b (ix2 r k) = IntOp.cmpi .eq (BitVec.ofNat 32 k.val) (BitVec.ofNat 32 v.val) := by
  pointwise [k0_pay11]
  simp only [pay6_at hq t hp, pay7_at hq t hp]
  exact congrArg (IntOp.cmpi .eq (BitVec.ofNat 32 k.val)) (fold_first (rest p u) (p v) (lane v) (rest_b t) (first2 t hp))
theorem pay12_at (k : Fin 128) : k0_pay12 (F := Ideal) d b (ix2 r k) = Ideal.div (Ideal.exp (p v - p u)) (1 + Ideal.exp (p v - p u)) := by
  pointwise [k0_pay12]
  rw [pay8_at hq t hp, pay9_at hq t hp]
theorem gate_at (k : Fin 8) : k0_pay1 (F := Ideal) (k0_pay10 d b) (k0_pay11 d b) (k0_pay12 d b) k0_pay13 (ix2 r k) = gate p u v k := by
  pointwise [k0_pay1, k0_pay13]
  have e : ∀ h, (⟨k.val, h⟩ : Fin 128) = lane k := fun _ => rfl
  simp only [e, pay10_at hq t hp, pay11_at hq t hp, pay12_at hq t hp]
  rw [sel_eq _ _ (by omega) (by omega)]
  unfold gate
  simp only [Fin.ext_iff]
end row
theorem pay3_at (d : FVec Ideal S512x128 .f32) (b : FVec Ideal S1x128 .f32) (r : Fin 512) (p : Fin 8 → EReal)
    (h : ∀ k : Fin 8, d (ix2 r (lane k)) + b (ix2 0 (lane k)) = p k) (k : Fin 128) : k0_pay3 (F := Ideal) d b (ix2 r k) = wide p k := by
  pointwise [k0_pay3]
  rw [sel_lt _ k.isLt, c_ninf]
  unfold wide
  by_cases h8 : k.val < 8
  · rw [if_pos h8, dif_pos h8]
    exact h ⟨k.val, h8⟩
  · rw [if_neg h8, dif_neg h8]
theorem pay2_at (x : FVec Ideal S512x1024 .f32) (g : FVec Ideal S1x1024 .f32) (w : FVec Ideal S1024x128 .f32) (r : Fin 512) (k : Fin 128)
    (hx : ∀ l, IsR (x (ix2 r l))) (hg : ∀ l, IsR (g (ix2 0 l))) (hw : ∀ l, IsR (w (ix2 l k))) :
    k0_pay2 (F := Ideal) x g w (ix2 r k) = ∑ l : Fin 1024, nrm (fun l => x (ix2 r l)) (fun l => g (ix2 0 l)) l * w (ix2 l k) := by
  refine Eq.trans ?_ (split (nrm (fun l => x (ix2 r l)) (fun l => g (ix2 0 l))) (fun l => w (ix2 l k)) (nrm_real _ _ hx hg) hw)
  pointwise [k0_pay2]
  rfl

variable (m : (ℓ : Loc nD τ sig) → Buf (Elt Ideal) ℓ)
theorem e_g (V : Valuation τ sig (Elt Ideal)) (l : Fin 1024) :
    StableHlo.after hostOps0 V (Proc.devRef .tc main_v12) (ix2 0 l) = V (Proc.devRef .tc main_arg1) (ix2 1 l) := by
  after_results
  pointwise
/-- The weight's eight columns are placed on the first lanes. -/
theorem lands_w (idx : IVec S1 32) (hi : ∀ i, idx i = 0#32) (y : S1024x8.Idx) (l : Fin 1024) (k : Fin 128) :
    scatter_S1024x128_S1_S1024x8_01_n_1_0.resultIdx? y idx = some (ix2 l k) ↔ (y 0).val = l.val ∧ (y 1).val = k.val := by
  rw [Routing.resultIdx?_eq_some]
  have s0 : scatter_S1024x128_S1_S1024x8_01_n_1_0.start y idx 0 = 0 := by
    unfold ScatterDims.start
    rw [dif_neg (by decide)]
  have s1 : scatter_S1024x128_S1_S1024x8_01_n_1_0.start y idx 1 = 0 := by
    unfold ScatterDims.start
    rw [dif_pos (by decide), hi]
    rfl
  have w0 : scatter_S1024x128_S1_S1024x8_01_n_1_0.window y 0 = (y 0).val := by
    unfold ScatterDims.window
    rw [dif_pos (by decide)]
    rfl
  have w1 : scatter_S1024x128_S1_S1024x8_01_n_1_0.window y 1 = (y 1).val := by
    unfold ScatterDims.window
    rw [dif_pos (by decide)]
    rfl
  constructor
  · intro h
    have h0 := h 0
    have h1 := h 1
    rw [s0, w0] at h0
    rw [s1, w1] at h1
    have e0 : ((ix2 l k : S1024x128.Idx) 0).val = l.val := rfl
    have e1 : ((ix2 l k : S1024x128.Idx) 1).val = k.val := rfl
    rw [e0] at h0
    rw [e1] at h1
    omega
  · intro h a
    match a with
    | ⟨0, _⟩ =>
      refine (congrArg₂ (fun (u : Int) (v : ℕ) => u + (v : Int)) s0 w0).trans ?_
      show (0 : Int) + ((y 0).val : Int) = (l.val : Int)
      omega
    | ⟨1, _⟩ =>
      refine (congrArg₂ (fun (u : Int) (v : ℕ) => u + (v : Int)) s1 w1).trans ?_
      show (0 : Int) + ((y 1).val : Int) = (k.val : Int)
      omega
theorem lands_b (idx : IVec S2 32) (hi : ∀ i, idx i = 0#32) (y : S8.Idx) (k : Fin 128) :
    scatter_S1x128_S2_S8_0_0_01_0.resultIdx? y idx = some (ix2 0 k) ↔ (y 0).val = k.val := by
  rw [Routing.resultIdx?_eq_some]
  have s0 : scatter_S1x128_S2_S8_0_0_01_0.start y idx 0 = 0 := by
    unfold ScatterDims.start
    rw [dif_pos (by decide), hi]
    rfl
  have s1 : scatter_S1x128_S2_S8_0_0_01_0.start y idx 1 = 0 := by
    unfold ScatterDims.start
    rw [dif_pos (by decide), hi]
    rfl
  have w0 : scatter_S1x128_S2_S8_0_0_01_0.window y 0 = 0 := by
    unfold ScatterDims.window
    rw [dif_neg (by decide)]
  have w1 : scatter_S1x128_S2_S8_0_0_01_0.window y 1 = (y 0).val := by
    unfold ScatterDims.window
    rw [dif_pos (by decide)]
    rfl
  constructor
  · intro h
    have h1 := h 1
    rw [s1, w1] at h1
    have e1 : ((ix2 0 k : S1x128.Idx) 1).val = k.val := rfl
    rw [e1] at h1
    omega
  · intro h a
    match a with
    | ⟨0, _⟩ =>
      refine (congrArg₂ (fun (u : Int) (v : ℕ) => u + (v : Int)) s0 w0).trans ?_
      rfl
    | ⟨1, _⟩ =>
      refine (congrArg₂ (fun (u : Int) (v : ℕ) => u + (v : Int)) s1 w1).trans ?_
      show (0 : Int) + ((y 0).val : Int) = (k.val : Int)
      omega
theorem e_w (V : Valuation τ sig (Elt Ideal)) (l : Fin 1024) (k : Fin 8) :
    StableHlo.after hostOps0 V (Proc.devRef .tc main_v6) (ix2 l (lane k)) = V (Proc.devRef .tc main_arg2) (ix3 0 l k) := by
  after_results
  refine Routing.scatter_set_hit _ _ _ _ (ix2 l (lane k)) (V (Proc.devRef .tc main_arg2) (ix3 0 l k)) (fun y hy => ?_) (ix2 l k) ((lands_w _ (fun _ => rfl) _ l _).mpr ⟨rfl, rfl⟩)
  have h := (lands_w _ (fun _ => rfl) y l _).mp hy
  have e : y = ix2 l k := by
    funext a
    match a with
    | ⟨0, _⟩ => exact Fin.ext h.1
    | ⟨1, _⟩ => exact Fin.ext h.2
  rw [e]
  pointwise
theorem e_b (V : Valuation τ sig (Elt Ideal)) (k : Fin 8) :
    StableHlo.after hostOps0 V (Proc.devRef .tc main_v11) (ix2 0 (lane k)) = V (Proc.devRef .tc main_arg3) (ix2 0 k) := by
  after_results
  have hi : ∀ i, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) i = 0#32 := by
    intro i
    idx_vars i
    pointwise
    exact ite_self _
  refine Routing.scatter_set_hit _ _ _ _ (ix2 0 (lane k)) (V (Proc.devRef .tc main_arg3) (ix2 0 k)) (fun y hy => ?_) (ix1 k) ((lands_b _ hi _ _).mpr rfl)
  have h := (lands_b _ hi y _).mp hy
  have e : y = ix1 k := by
    funext a
    match a with
    | ⟨0, _⟩ => exact Fin.ext h
  rw [e]
  pointwise
theorem idx : ∀ t : Fin cfg0.N, win0_0.index t = ![t.val, 0] ∧ win0_1.index t = ![0, 0] ∧ win0_2.index t = ![0, 0] ∧ win0_3.index t = ![0, 0] ∧ win0_4.index t = ![t.val, 0] ∧ t.val < 32 :=
  (by decide +kernel : ∀ t : Fin grid0.N, _)
abbrev X (c : Dev nD) : FVec Ideal S16384x1024 .f32 := m ((c : Thread nD τ).loc main_arg0)
abbrev N (c : Dev nD) : FVec Ideal S2x1024 .f32 := m ((c : Thread nD τ).loc main_arg1)
abbrev W (c : Dev nD) : FVec Ideal S1x1024x8 .f32 := m ((c : Thread nD τ).loc main_arg2)
abbrev B (c : Dev nD) : FVec Ideal S1x8 .f32 := m ((c : Thread nD τ).loc main_arg3)
theorem x_at (c : Dev nD) (t : Fin cfg0.N) (r : Fin 512) (l : Fin 1024) :
    iblk m c 0 t (ix2 r l) = X m c (ix2 ⟨t.val * 512 + r.val, by have := (idx t).2.2.2.2.2; omega⟩ l) := by
  blk_ext [iblk, V_main_arg0, idx t]
theorem g_at (c : Dev nD) (t : Fin cfg0.N) (l : Fin 1024) : iblk m c 1 t (ix2 0 l) = N m c (ix2 1 l) := by
  refine Eq.trans ?_ (e_g (fun b => m (c, b)) l)
  blk_ext [iblk, idx t]
theorem w_at (c : Dev nD) (t : Fin cfg0.N) (l : Fin 1024) (k : Fin 8) : iblk m c 2 t (ix2 l (lane k)) = W m c (ix3 0 l k) := by
  refine Eq.trans ?_ (e_w (fun b => m (c, b)) l k)
  blk_ext [iblk, idx t]
theorem b_at (c : Dev nD) (t : Fin cfg0.N) (k : Fin 8) : iblk m c 3 t (ix2 0 (lane k)) = B m c (ix2 0 k) := by
  refine Eq.trans ?_ (e_b (fun b => m (c, b)) k)
  blk_ext [iblk, idx t]
end Cert.Kernel13Ideal.Router

namespace Cert.Reference13Ideal.Router
open Cert.Reference13Ideal Cert.Reference13Ideal.Gen Cert.Reference13Ideal.Read Cert.Swi Cert.Rt
variable (x0 : FVec Ideal S16384x1024 .f32) (x1 : FVec Ideal S2x1024 .f32) (x2 : FVec Ideal S1x1024x8 .f32) (x3 : FVec Ideal S1x8 .f32)
/-- A row's eight logits. -/
def lg (R : Fin 16384) (k : Fin 8) : EReal := (∑ l : Fin 1024, nrm (fun l => x0 (ix2 R l)) (fun l => x1 (ix2 1 l)) l * x2 (ix3 0 l k)) + x3 (ix2 0 k)
theorem lg_at (R : Fin 16384) (k : Fin 8) : val_main_v20 (F := Ideal) x0 x1 x2 x3 (ix2 R k) = lg x0 x1 x2 x3 R k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The place the sort puts at `j`. -/
abbrev at' (R : Fin 16384) (j : Fin 2) : Fin 8 := sortedFrom (gtf (lg x0 x1 x2 x3 R)) ⟨j.val, by omega⟩
theorem order (R : Fin 16384) : (fun k k' : Fin 8 => FloatOps.cmpfTotal (F := Ideal) (φ := .f32) .gt (val_main_v20 (F := Ideal) x0 x1 x2 x3 (ix2 R k)) (val_main_v20 (F := Ideal) x0 x1 x2 x3 (ix2 R k')) == 1#1)
    = gtf (lg x0 x1 x2 x3 R) := by
  funext k k'
  rw [lg_at, lg_at]
  show (BitVec.ofBool (decide (lg x0 x1 x2 x3 R k' < lg x0 x1 x2 x3 R k)) == 1#1) = _
  unfold gtf
  generalize decide (lg x0 x1 x2 x3 R k' < lg x0 x1 x2 x3 R k) = z
  revert z
  decide
theorem vals (R : Fin 16384) (j : Fin 2) : val_main_values (F := Ideal) x0 x1 x2 x3 (ix2 R j) = lg x0 x1 x2 x3 R (at' x0 x1 x2 x3 R j) :=
  (top_at (val_main_v20 (F := Ideal) x0 x1 x2 x3) sliceFits_S16384x8_S16384x2 R j _ (order x0 x1 x2 x3 R)).1.trans (lg_at x0 x1 x2 x3 R _)
theorem inds (R : Fin 16384) (j : Fin 2) : val_main_indices (F := Ideal) x0 x1 x2 x3 (ix2 R j) = BitVec.ofNat 32 (at' x0 x1 x2 x3 R j).val :=
  (top_at (val_main_v20 (F := Ideal) x0 x1 x2 x3) sliceFits_S16384x8_S16384x2 R j _ (order x0 x1 x2 x3 R)).2
section fin
variable (R : Fin 16384) (hp : ∀ k, IsR (lg x0 x1 x2 x3 R k))
include hp
theorem mx : max ⊥ (Finset.fold max ⊥ (fun j => val_main_values (F := Ideal) x0 x1 x2 x3 (ix2 R j)) Finset.univ) = lg x0 x1 x2 x3 R (at' x0 x1 x2 x3 R 0) := by
  rw [max_eq_right bot_le, fold_max _ 0 fun k => ?_, vals]
  rw [vals, vals]
  have : k = 0 ∨ k = 1 := by omega
  rcases this with rfl | rfl
  · exact le_rfl
  · exact ahead_le (sorted_ahead _ _ _ (by decide))
theorem soft (j : Fin 2) : val_main_v31 (F := Ideal) x0 x1 x2 x3 (ix2 R j)
    = Ideal.div (if j = 0 then 1 else Ideal.exp (lg x0 x1 x2 x3 R (at' x0 x1 x2 x3 R 1) - lg x0 x1 x2 x3 R (at' x0 x1 x2 x3 R 0)))
        (1 + Ideal.exp (lg x0 x1 x2 x3 R (at' x0 x1 x2 x3 R 1) - lg x0 x1 x2 x3 R (at' x0 x1 x2 x3 R 0))) := by
  have e0 : Ideal.exp 0 = 1 := by rw [← EReal.coe_zero, Ideal.exp_coe, Real.exp_zero, EReal.coe_one]
  pointwise [val_main_v31, val_main_v30, val_main_v29, val_main_v28, val_main_v27, val_main_v26, val_main_v25, val_main_v24, val_main_v23, val_main_v22, val_main_v21, val_main_cst_2, val_main_cst_3, val_main_cst_4]
  rw [c_ninf, mx x0 x1 x2 x3 R hp, Fin.sum_univ_two, vals, vals, vals, (hp _).self_sub, e0]
  have : j = 0 ∨ j = 1 := by omega
  rcases this with rfl | rfl
  · rw [(hp _).self_sub, e0, if_pos rfl]
  · rw [if_neg (by decide)]
theorem out_at (k : Fin 8) : val_main_v36 (F := Ideal) x0 x1 x2 x3 (ix2 R k) = gate (lg x0 x1 x2 x3 R) (at' x0 x1 x2 x3 R 0) (at' x0 x1 x2 x3 R 1) k := by
  pointwise [val_main_v36, val_main_v35, val_main_v34, val_main_v33, val_main_v32, val_main_call0_v4, val_main_call0_v3, val_main_call0_v2, val_main_call0_v1, val_main_call0_v0, val_main_cst_5]
  rw [Fin.sum_univ_two, soft x0 x1 x2 x3 R hp, soft x0 x1 x2 x3 R hp, if_pos rfl, if_neg (by decide), inds, inds, bit_eq _ _ (by omega) (by omega), bit_eq _ _ (by omega) (by omega)]
  have one : FloatOps.uitofp (F := Ideal) FTy.f32 (1#1 : BitVec 1) = (1 : EReal) := by
    show (((1#1 : BitVec 1).toNat : ℝ) : EReal) = 1
    norm_num
  have zero : FloatOps.uitofp (F := Ideal) FTy.f32 (0#1 : BitVec 1) = (0 : EReal) := by
    show (((0#1 : BitVec 1).toNat : ℝ) : EReal) = 0
    norm_num
  unfold gate
  refine congrArg₂ (· + ·) ?_ ?_
  · by_cases h : k = at' x0 x1 x2 x3 R 0
    · rw [if_pos (congrArg Fin.val h.symm), if_pos h, one]
      exact one_mul _
    · rw [if_neg fun e => h (Fin.ext e.symm), if_neg h, zero]
      exact zero_mul _
  · by_cases h : k = at' x0 x1 x2 x3 R 1
    · rw [if_pos (congrArg Fin.val h.symm), if_pos h, one]
      exact one_mul _
    · rw [if_neg fun e => h (Fin.ext e.symm), if_neg h, zero]
      exact zero_mul _
end fin
end Cert.Reference13Ideal.Router

namespace Cert.Kernel13Ideal.Router
open Cert.Kernel13Ideal Cert.Kernel13Ideal.Gen Cert.Swi Cert.Rt
variable (m : (ℓ : Loc nD τ sig) → Buf (Elt Ideal) ℓ)
/-- The kernel's product with the loaded blocks, over real entries. -/
theorem prod_at (x0 : FVec Ideal S512x1024 .f32) (x1 : FVec Ideal S1x1024 .f32) (x2 : FVec Ideal S1024x128 .f32) (x3 : FVec Ideal S1x128 .f32) (r : Fin 512) (k : Fin 128)
    (hx : ∀ l, IsR (x0 (ix2 r l))) (hg : ∀ l, IsR (x1 (ix2 0 l))) (hw : ∀ l, IsR (x2 (ix2 l k))) :
    k0_pay14 (F := Ideal) x0 x1 x2 x3 (ix2 r k) = ∑ l : Fin 1024, nrm (fun l => x0 (ix2 r l)) (fun l => x1 (ix2 0 l)) l * x2 (ix2 l k) := by
  refine Eq.trans ?_ (pay2_at x0 x1 x2 r k hx hg hw)
  rw [k0_pay14]
  frame_out
theorem out_at (x0 : FVec Ideal S512x1024 .f32) (x1 : FVec Ideal S1x1024 .f32) (x2 : FVec Ideal S1024x128 .f32) (x3 : FVec Ideal S1x128 .f32) (r : Fin 512) (k : Fin 8)
    (p : Fin 8 → EReal) (u v : Fin 8) (hx : ∀ l, IsR (x0 (ix2 r l))) (hg : ∀ l, IsR (x1 (ix2 0 l))) (hw : ∀ l (k : Fin 8), IsR (x2 (ix2 l (lane k))))
    (hl : ∀ k : Fin 8, (∑ l : Fin 1024, nrm (fun l => x0 (ix2 r l)) (fun l => x1 (ix2 0 l)) l * x2 (ix2 l (lane k))) + x3 (ix2 0 (lane k)) = p k)
    (t : Top p u v) (hp : ∀ k, IsR (p k)) : out0_4 (F := Ideal) x0 x1 x2 x3 (ix2 r k) = gate p u v k := by
  refine Eq.trans ?_ (gate_at (d := k0_pay14 (F := Ideal) x0 x1 x2 x3) (b := x3) (r := r) (p := p)
    (pay3_at _ _ r p fun k => (congrArg (· + x3 (ix2 0 (lane k))) (prod_at x0 x1 x2 x3 r (lane k) hx hg fun l => hw l k)).trans (hl k)) t hp k)
  rw [out0_4]
  frame_out
/-- The side conditions of the predicate `finite`. -/
theorem finite_facts : Cert.Pre_finite.Facts := by
  constructor <;> decide
/-- What the predicate says of the four arrays. -/
theorem real_of [Cert.Pre_finite.Facts] (x0 : FVec Ideal S16384x1024 .f32) (x1 : FVec Ideal S2x1024 .f32) (x2 : FVec Ideal S1x1024x8 .f32) (x3 : FVec Ideal S1x8 .f32)
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2.1 = (fun _ => 1#1) ∧ (Cert.Pre_finite.fn (F := Ideal) x0 x1 x2 x3).2.2.2 = (fun _ => 1#1)) :
    (∀ i, IsR (x0 i)) ∧ (∀ i, IsR (x1 i)) ∧ (∀ i, IsR (x2 i)) ∧ (∀ i, IsR (x3 i)) := by
  have bit : ∀ x : EReal, BitVec.ofBool (decide (max x (-x) < Ideal.ofBits .f32 2139095040#32)) = 1#1 → IsR x := by
    intro x hx
    rw [c_inf] at hx
    by_cases hlt : max x (-x) < ⊤
    · exact isR_abs hlt
    · rw [decide_eq_false hlt] at hx
      exact absurd hx (by decide)
  exact ⟨fun i => bit _ (congrFun h.1 i), fun i => bit _ (congrFun h.2.1 i), fun i => bit _ (congrFun h.2.2.1 i), fun i => bit _ (congrFun h.2.2.2 i)⟩
/-- The gates, from the reference. -/
def G (c : Dev nD) : FVec Ideal S16384x8 .f32 := Cert.Reference13Ideal.Read.val_main_v36 (F := Ideal) (X m c) (N m c) (W m c) (B m c)
theorem final (c : Dev nD) (hr : (∀ i, IsR (X m c i)) ∧ (∀ i, IsR (N m c i)) ∧ (∀ i, IsR (W m c i)) ∧ (∀ i, IsR (B m c i))) :
    (dats m 0 c).arrAt 4 cfg0.N = G m c := by
  refine (dats m 0 c).arrAt_eq_of_covers 4 _ (by decide +kernel) fun t hf y => ?_
  blk_simp
  rw [after0_4]
  idx_vars y
  have hR : t.val * 512 + y0.val < 16384 := by have := (idx t).2.2.2.2.2; omega
  have hp : ∀ k, IsR (Cert.Reference13Ideal.Router.lg (X m c) (N m c) (W m c) (B m c) ⟨t.val * 512 + y0.val, hR⟩ k) := fun k =>
    (isR_sum _ fun l => (nrm_real _ _ (fun l => hr.1 _) (fun l => hr.2.1 _) l).mul (hr.2.2.1 _)).add (hr.2.2.2 _)
  refine (out_at (iblk m c 0 t) (iblk m c 1 t) (iblk m c 2 t) (iblk m c 3 t) y0 y1 (Cert.Reference13Ideal.Router.lg (X m c) (N m c) (W m c) (B m c) ⟨t.val * 512 + y0.val, hR⟩) _ _ ?_ ?_ ?_ ?_ (top_sorted _) hp).trans ?_
  · exact fun l => (x_at m c t y0 l) ▸ hr.1 _
  · exact fun l => (g_at m c t l) ▸ hr.2.1 _
  · exact fun l k => (w_at m c t l k) ▸ hr.2.2.1 _
  · intro k
    refine congrArg₂ (· + ·) (Finset.sum_congr rfl fun l _ => ?_) (b_at m c t k)
    refine congrArg₂ (· * ·) ?_ (w_at m c t l k)
    exact congrFun (congrArg₂ nrm (funext fun l => x_at m c t y0 l) (funext fun l => g_at m c t l)) l
  · refine (?_ : _ = G m c (ix2 ⟨t.val * 512 + y0.val, hR⟩ y1)).trans (congrArg (G m c) ?_)
    · exact (Cert.Reference13Ideal.Router.out_at (X m c) (N m c) (W m c) (B m c) _ hp y1).symm
    · blk_ext [idx t]
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 4,
    ((h c).1 0).trans (((dats m 0 c).arrAt_in 0 rfl cfg0.N).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)
end Cert.Kernel13Ideal.Router
end
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel8Ideal.Value
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel9Ideal.Value
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel10Ideal.Value
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel11Ideal.Value
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.MoePoint
public import proofs.«01_k».proof.Proof.AttnPoint
public import proofs.«01_k».proof.Proof.FfnPoint
public import proofs.«01_k».proof.Proof.MemPoint
public import proofs.«01_k».proof.Proof.ProjPoint
public import proofs.«01_k».proof.Proof.StepProj
public import proofs.«01_k».proof.Proof.InPoint
public import proofs.«01_k».proof.Proof.OutPoint
public import proofs.«01_k».proof.Proof.ConvPoint
public import proofs.«01_k».proof.Proof.NormPoint
public import proofs.«01_k».proof.Proof.NormPoint
public import proofs.«01_k».proof.Proof.ConvStep
public import proofs.«01_k».proof.Proof.RouterPoint
public import Idealize.ShloMosaic.Adequacy
public import Idealize.ShloMosaic.Init

@[expose] public section

noncomputable section

namespace Cert.Proof

open Idealize.ShloMosaic Idealize.SL.Sem

theorem congr6 {A B C D E G H : Type} (f : A → B → C → D → E → G → H) {a a' : A} {b b' : B} {c c' : C} {d d' : D} {e e' : E} {g g' : G}
    (ha : a = a') (hb : b = b') (hc : c = c') (hd : d = d') (he : e = e') (hg : g = g') : f a b c d e g = f a' b' c' d' e' g' := by
  rw [ha, hb, hc, hd, he, hg]
theorem congr3 {A B C H : Type} (f : A → B → C → H) {a a' : A} {b b' : B} {c c' : C} (ha : a = a') (hb : b = b') (hc : c = c') : f a b c = f a' b' c' := by
  rw [ha, hb, hc]
theorem congr4 {A B C D H : Type} (f : A → B → C → D → H) {a a' : A} {b b' : B} {c c' : C} {d d' : D}
    (ha : a = a') (hb : b = b') (hc : c = c') (hd : d = d') : f a b c d = f a' b' c' d' := by
  rw [ha, hb, hc, hd]
theorem congr5 {A B C D E H : Type} (f : A → B → C → D → E → H) {a a' : A} {b b' : B} {c c' : C} {d d' : D} {e e' : E}
    (ha : a = a') (hb : b = b') (hc : c = c') (hd : d = d') (he : e = e') : f a b c d e = f a' b' c' d' e' := by
  rw [ha, hb, hc, hd, he]

theorem frame_Kernel : Cert.quiescent_Kernel := fun m ρ _ => Cert.Kernel.Gen.frame m ρ
theorem frame_KernelIdeal : Cert.quiescent_KernelIdeal := fun m ρ _ => Cert.KernelIdeal.Gen.frame m ρ
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_Kernel2 : Cert.quiescent_Kernel2 := fun m ρ _ => Cert.Kernel2.Gen.frame m ρ
theorem frame_Kernel2Ideal : Cert.quiescent_Kernel2Ideal := fun m ρ _ => Cert.Kernel2Ideal.Gen.frame m ρ
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_Kernel3 : Cert.quiescent_Kernel3 := fun m ρ _ => Cert.Kernel3.Gen.frame m ρ
theorem frame_Kernel3Ideal : Cert.quiescent_Kernel3Ideal := fun m ρ _ => Cert.Kernel3Ideal.Gen.frame m ρ
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_Kernel4 : Cert.quiescent_Kernel4 := fun m ρ _ => Cert.Kernel4.Gen.frame m ρ
theorem frame_Kernel4Ideal : Cert.quiescent_Kernel4Ideal := fun m ρ _ => Cert.Kernel4Ideal.Gen.frame m ρ
theorem frame_Reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem frame_Kernel5 : Cert.quiescent_Kernel5 := fun m ρ _ => Cert.Kernel5.Gen.frame m ρ
theorem frame_Kernel5Ideal : Cert.quiescent_Kernel5Ideal := fun m ρ _ => Cert.Kernel5Ideal.Gen.frame m ρ
theorem frame_Reference5Ideal : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run m ρ)

theorem frame_Kernel6 : Cert.quiescent_Kernel6 := fun m ρ _ => Cert.Kernel6.Gen.frame m ρ
theorem frame_Kernel6Ideal : Cert.quiescent_Kernel6Ideal := fun m ρ _ => Cert.Kernel6Ideal.Gen.frame m ρ
theorem frame_Reference6Ideal : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

theorem frame_Kernel7 : Cert.quiescent_Kernel7 := fun m ρ _ => Cert.Kernel7.Gen.frame m ρ
theorem frame_Kernel7Ideal : Cert.quiescent_Kernel7Ideal := fun m ρ _ => Cert.Kernel7Ideal.Gen.frame m ρ
theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem frame_Kernel8 : Cert.quiescent_Kernel8 := fun m ρ _ => Cert.Kernel8.Gen.frame m ρ
theorem frame_Kernel8Ideal : Cert.quiescent_Kernel8Ideal := fun m ρ _ => Cert.Kernel8Ideal.Gen.frame m ρ
theorem frame_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem frame_Kernel9 : Cert.quiescent_Kernel9 := fun m ρ _ => Cert.Kernel9.Gen.frame m ρ
theorem frame_Kernel9Ideal : Cert.quiescent_Kernel9Ideal := fun m ρ _ => Cert.Kernel9Ideal.Gen.frame m ρ
theorem frame_Reference9Ideal : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

theorem frame_Kernel10 : Cert.quiescent_Kernel10 := fun m ρ _ => Cert.Kernel10.Gen.frame m ρ
theorem frame_Kernel10Ideal : Cert.quiescent_Kernel10Ideal := fun m ρ _ => Cert.Kernel10Ideal.Gen.frame m ρ
theorem frame_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem frame_Kernel11 : Cert.quiescent_Kernel11 := fun m ρ _ => Cert.Kernel11.Gen.frame m ρ
theorem frame_Kernel11Ideal : Cert.quiescent_Kernel11Ideal := fun m ρ _ => Cert.Kernel11Ideal.Gen.frame m ρ
theorem frame_Reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem frame_Kernel12 : Cert.quiescent_Kernel12 := fun m ρ _ => Cert.Kernel12.Gen.frame m ρ
theorem frame_Kernel12Ideal : Cert.quiescent_Kernel12Ideal := fun m ρ _ => Cert.Kernel12Ideal.Gen.frame m ρ
theorem frame_Reference12Ideal : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run m ρ)

theorem frame_Kernel13 : Cert.quiescent_Kernel13 := fun m ρ _ => Cert.Kernel13.Gen.frame m ρ
theorem frame_Kernel13Ideal : Cert.quiescent_Kernel13Ideal := fun m ρ _ => Cert.Kernel13Ideal.Gen.frame m ρ
theorem frame_Reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- The layer's experts: kernel and reference end with the same array over the extended reals. -/
theorem algebraic_1 : Cert.algebraic_KernelIdeal_ReferenceIdeal := by
  intro m ρ m' ρ' _ hag
  refine ⟨fun c => Cert.KernelIdeal.Moe.G m c, ?_, ?_⟩
  · exact (θ_run _ _ _).mono (fun r h c => ⟨(h c).1.trans (Cert.KernelIdeal.Moe.final m c), (h c).2⟩) (Cert.KernelIdeal.Value.run_blocks m ρ)
  · refine (θ_run _ _ _).mono (fun r h c => ⟨(h c).1.trans ?_, (h c).2⟩) (Cert.ReferenceIdeal.Value.run m' ρ')
    rw [Cert.ReferenceIdeal.Read.val_main_v136_eq]
    exact Cert.Proof.congr6 (Cert.ReferenceIdeal.Read.val_main_v136 (F := Ideal)) ((hag c).1) ((hag c).2.1) ((hag c).2.2.1) ((hag c).2.2.2.1) ((hag c).2.2.2.2.1) ((hag c).2.2.2.2.2)

/-- The layer's attention: kernel and reference end with the same array over the extended reals. -/
theorem algebraic_2 : Cert.algebraic_Kernel2Ideal_Reference2Ideal := by
  intro m ρ m' ρ' _ hag
  refine ⟨fun c => Cert.Kernel2Ideal.Attn.G m c, ?_, ?_⟩
  · exact (θ_run _ _ _).mono (fun r h c => ⟨(h c).1.trans (Cert.Kernel2Ideal.Attn.final m c), (h c).2⟩) (Cert.Kernel2Ideal.Value.run_blocks m ρ)
  · refine (θ_run _ _ _).mono (fun r h c => ⟨(h c).1.trans ?_, (h c).2⟩) (Cert.Reference2Ideal.Value.run m' ρ')
    rw [Cert.Reference2Ideal.Read.val_main_v43_eq]
    exact Cert.Proof.congr6 (Cert.Reference2Ideal.Read.val_main_v43 (F := Ideal)) ((hag c).1) ((hag c).2.1) ((hag c).2.2.1) ((hag c).2.2.2.1) ((hag c).2.2.2.2.1) ((hag c).2.2.2.2.2)

/-- The dense feed-forward: kernel and reference end with the same array over the extended reals. -/
theorem algebraic_3 : Cert.algebraic_Kernel3Ideal_Reference3Ideal := by
  intro m ρ m' ρ' _ hag
  refine ⟨fun c => Cert.Kernel3Ideal.Ffn.G m c, ?_, ?_⟩
  · exact (θ_run _ _ _).mono (fun r h c => ⟨(h c).1.trans (Cert.Kernel3Ideal.Ffn.final m c), (h c).2⟩) (Cert.Kernel3Ideal.Value.run_blocks m ρ)
  · refine (θ_run _ _ _).mono (fun r h c => ⟨(h c).1.trans ?_, (h c).2⟩) (Cert.Reference3Ideal.Value.run m' ρ')
    rw [Cert.Reference3Ideal.Read.val_main_v23_eq]
    exact Cert.Proof.congr5 (Cert.Reference3Ideal.Read.val_main_v23 (F := Ideal)) ((hag c).1) ((hag c).2.1) ((hag c).2.2.1) ((hag c).2.2.2.1) ((hag c).2.2.2.2)

/-- The memory's keys and values of both layers: kernel and reference end with the same arrays over the extended reals. -/
theorem algebraic_4 : Cert.algebraic_Kernel4Ideal_Reference4Ideal := by
  intro m ρ m' ρ' _ hag
  refine ⟨fun c => Cert.Kernel4Ideal.Mem.GK m c, fun c => Cert.Kernel4Ideal.Mem.GV m c, ?_, ?_⟩
  · exact (θ_run _ _ _).mono (fun r h c => ⟨(h c).1.trans (Cert.Kernel4Ideal.Mem.final_k m ρ c), (h c).2.1.trans (Cert.Kernel4Ideal.Mem.final_v m ρ c), (h c).2.2⟩) (Cert.Kernel4Ideal.Mem.run m ρ)
  · refine (θ_run _ _ _).mono (fun r h c => ⟨(h c).1.trans ?_, (h c).2.1.trans ?_, (h c).2.2⟩) (Cert.Reference4Ideal.Value.run m' ρ')
    · rw [Cert.Reference4Ideal.Read.val_main_v48_eq]
      exact Cert.Proof.congr3 (Cert.Reference4Ideal.Read.val_main_v48 (F := Ideal)) ((hag c).1) ((hag c).2.1) ((hag c).2.2.1)
    · rw [Cert.Reference4Ideal.Read.val_main_v51_eq]
      exact Cert.Proof.congr3 (Cert.Reference4Ideal.Read.val_main_v51 (F := Ideal)) ((hag c).1) ((hag c).2.1) ((hag c).2.2.2)

/-- The prompt's input projection and what it leaves for the next step: kernel and reference end with the same arrays over the extended reals. -/
theorem algebraic_5 : Cert.algebraic_Kernel5Ideal_Reference5Ideal := by
  intro m ρ m' ρ' _ hag
  refine ⟨fun c => Cert.Kernel5Ideal.Proj.G0 m c, fun c => Cert.Kernel5Ideal.Proj.G1 m c, fun c => Cert.Kernel5Ideal.Proj.G2 m c, ?_, ?_⟩
  · exact (θ_run _ _ _).mono (fun r h c => ⟨(h c).1.trans (Cert.Kernel5Ideal.Proj.final_h m c), (h c).2.1.trans (Cert.Kernel5Ideal.Proj.final_pool m c), (h c).2.2.1.trans (Cert.Kernel5Ideal.Proj.final_shift m c), (h c).2.2.2⟩) (Cert.Kernel5Ideal.Proj.run m ρ)
  · refine (θ_run _ _ _).mono (fun r h c => ⟨(h c).1.trans ?_, (h c).2.1.trans ?_, (h c).2.2.1.trans ?_, (h c).2.2.2⟩) (Cert.Reference5Ideal.Value.run m' ρ')
    · rw [Cert.Reference5Ideal.Read.val_main_v16_eq]
      exact Cert.Proof.congr3 (Cert.Reference5Ideal.Read.val_main_v16 (F := Ideal)) ((hag c).1) ((hag c).2.1) ((hag c).2.2)
    · rw [Cert.Reference5Ideal.Read.val_main_v24_eq]
      exact Cert.Proof.congr3 (Cert.Reference5Ideal.Read.val_main_v24 (F := Ideal)) ((hag c).1) ((hag c).2.1) ((hag c).2.2)
    · rw [Cert.Reference5Ideal.Read.val_main_v25_eq]
      exact Cert.Proof.congr3 (Cert.Reference5Ideal.Read.val_main_v25 (F := Ideal)) ((hag c).1) ((hag c).2.1) ((hag c).2.2)

/-- The sample's input projection and what it leaves for the next step: kernel and reference end with the same arrays over the extended reals. -/
theorem algebraic_6 : Cert.algebraic_Kernel6Ideal_Reference6Ideal := by
  intro m ρ m' ρ' _ hag
  refine ⟨fun c => Cert.Kernel6Ideal.Proj.G0 m c, fun c => Cert.Kernel6Ideal.Proj.G1 m c, fun c => Cert.Kernel6Ideal.Proj.G2 m c, ?_, ?_⟩
  · exact (θ_run _ _ _).mono (fun r h c => ⟨(h c).1.trans (Cert.Kernel6Ideal.Proj.final_h m c), (h c).2.1.trans (Cert.Kernel6Ideal.Proj.final_pool m c), (h c).2.2.1.trans (Cert.Kernel6Ideal.Proj.final_shift m c), (h c).2.2.2⟩) (Cert.Kernel6Ideal.Proj.run m ρ)
  · refine (θ_run _ _ _).mono (fun r h c => ⟨(h c).1.trans ?_, (h c).2.1.trans ?_, (h c).2.2.1.trans ?_, (h c).2.2.2⟩) (Cert.Reference6Ideal.Value.run m' ρ')
    · rw [Cert.Reference6Ideal.Read.val_main_v23_eq]
      exact Cert.Proof.congr3 (Cert.Reference6Ideal.Read.val_main_v23 (F := Ideal)) ((hag c).1) ((hag c).2.1) ((hag c).2.2.1)
    · rw [Cert.Reference6Ideal.Read.val_main_v24_eq]
      exact Cert.Proof.congr4 (Cert.Reference6Ideal.Read.val_main_v24 (F := Ideal)) ((hag c).1) ((hag c).2.1) ((hag c).2.2.1) ((hag c).2.2.2)
    · rw [Cert.Reference6Ideal.Read.val_main_v25_eq]
      exact Cert.Proof.congr3 (Cert.Reference6Ideal.Read.val_main_v25 (F := Ideal)) ((hag c).1) ((hag c).2.1) ((hag c).2.2.1)

/-- The input projection of layer 1: kernel and reference end with the same array over the extended reals. -/
theorem algebraic_7 : Cert.algebraic_Kernel7Ideal_Reference7Ideal := by
  intro m ρ m' ρ' _ hag
  refine ⟨fun c => Cert.Kernel7Ideal.InProj.G m c, ?_, ?_⟩
  · exact (θ_run _ _ _).mono (fun r h c => ⟨(h c).1.trans (Cert.Kernel7Ideal.InProj.final m c), (h c).2⟩) (Cert.Kernel7Ideal.Value.run_blocks m ρ)
  · refine (θ_run _ _ _).mono (fun r h c => ⟨(h c).1.trans ?_, (h c).2⟩) (Cert.Reference7Ideal.Value.run m' ρ')
    · rw [Cert.Reference7Ideal.Read.val_main_v16_eq]
      exact Cert.Proof.congr3 (Cert.Reference7Ideal.Read.val_main_v16 (F := Ideal)) ((hag c).1) ((hag c).2.1) ((hag c).2.2)

/-- The output projection of layer 0 with the residual: kernel and reference end with the same array over the extended reals. -/
theorem algebraic_8 : Cert.algebraic_Kernel8Ideal_Reference8Ideal := by
  intro m ρ m' ρ' _ hag
  refine ⟨fun c => Cert.Kernel8Ideal.OutProj.G m c, ?_, ?_⟩
  · exact (θ_run _ _ _).mono (fun r h c => ⟨(h c).1.trans (Cert.Kernel8Ideal.OutProj.final m c), (h c).2⟩) (Cert.Kernel8Ideal.Value.run_blocks m ρ)
  · refine (θ_run _ _ _).mono (fun r h c => ⟨(h c).1.trans ?_, (h c).2⟩) (Cert.Reference8Ideal.Value.run m' ρ')
    · rw [Cert.Reference8Ideal.Read.val_main_v2_eq]
      exact Cert.Proof.congr3 (Cert.Reference8Ideal.Read.val_main_v2 (F := Ideal)) ((hag c).1) ((hag c).2.1) ((hag c).2.2)

/-- The prompt's causal convolution and its tail: kernel and reference end with the same arrays over the extended reals. -/
theorem algebraic_9 : Cert.algebraic_Kernel9Ideal_Reference9Ideal := by
  intro m ρ m' ρ' _ hag
  refine ⟨fun c => Cert.Kernel9Ideal.Conv.G0 m c, fun c => Cert.Kernel9Ideal.Conv.G1 m c, ?_, ?_⟩
  · exact (θ_run _ _ _).mono (fun r h c => ⟨(h c).1.trans (Cert.Kernel9Ideal.Conv.final_x m c), (h c).2.1.trans (Cert.Kernel9Ideal.Conv.final_tail m c), (h c).2.2⟩) (Cert.Kernel9Ideal.Value.run_blocks m ρ)
  · refine (θ_run _ _ _).mono (fun r h c => ⟨(h c).1.trans ?_, (h c).2.1.trans ?_, (h c).2.2⟩) (Cert.Reference9Ideal.Value.run m' ρ')
    · rw [Cert.Reference9Ideal.Read.val_main_v32_eq]
      exact Cert.Proof.congr4 (Cert.Reference9Ideal.Read.val_main_v32 (F := Ideal)) ((hag c).1) ((hag c).2.1) ((hag c).2.2.1) ((hag c).2.2.2)
    · rw [Cert.Reference9Ideal.Read.val_main_v33_eq]
      exact congrArg (Cert.Reference9Ideal.Read.val_main_v33 (F := Ideal)) ((hag c).1)

/-- The last normalisation over the prompt: kernel and reference end with the same array over the extended reals. -/
theorem algebraic_10 : Cert.algebraic_Kernel10Ideal_Reference10Ideal := by
  intro m ρ m' ρ' _ hag
  refine ⟨fun c => Cert.Kernel10Ideal.Norm.G m c, ?_, ?_⟩
  · exact (θ_run _ _ _).mono (fun r h c => ⟨(h c).1.trans (Cert.Kernel10Ideal.Norm.final m c), (h c).2⟩) (Cert.Kernel10Ideal.Value.run_blocks m ρ)
  · refine (θ_run _ _ _).mono (fun r h c => ⟨(h c).1.trans ?_, (h c).2⟩) (Cert.Reference10Ideal.Value.run m' ρ')
    rw [Cert.Reference10Ideal.Read.val_main_v12_eq]
    exact congrArg₂ (Cert.Reference10Ideal.Read.val_main_v12 (F := Ideal)) ((hag c).1) ((hag c).2)

/-- The last normalisation over the sample: kernel and reference end with the same array over the extended reals. -/
theorem algebraic_11 : Cert.algebraic_Kernel11Ideal_Reference11Ideal := by
  intro m ρ m' ρ' _ hag
  refine ⟨fun c => Cert.Kernel11Ideal.Norm.G m c, ?_, ?_⟩
  · exact (θ_run _ _ _).mono (fun r h c => ⟨(h c).1.trans (Cert.Kernel11Ideal.Norm.final m c), (h c).2⟩) (Cert.Kernel11Ideal.Value.run_blocks m ρ)
  · refine (θ_run _ _ _).mono (fun r h c => ⟨(h c).1.trans ?_, (h c).2⟩) (Cert.Reference11Ideal.Value.run m' ρ')
    rw [Cert.Reference11Ideal.Read.val_main_v12_eq]
    exact congrArg₂ (Cert.Reference11Ideal.Read.val_main_v12 (F := Ideal)) ((hag c).1) ((hag c).2)

/-- The sample's convolution step and the state it leaves: kernel and reference end with the same arrays over the extended reals. -/
theorem algebraic_12 : Cert.algebraic_Kernel12Ideal_Reference12Ideal := by
  intro m ρ m' ρ' _ hag
  refine ⟨fun c => Cert.Kernel12Ideal.Step.G0 m c, fun c => Cert.Kernel12Ideal.Step.G1 m c, ?_, ?_⟩
  · exact (θ_run _ _ _).mono (fun r h c => ⟨(h c).1.trans (Cert.Kernel12Ideal.Step.final_x m c), (h c).2.1.trans (Cert.Kernel12Ideal.Step.final_st m c), (h c).2.2⟩) (Cert.Kernel12Ideal.Step.run m ρ)
  · refine (θ_run _ _ _).mono (fun r h c => ⟨(h c).1.trans ?_, (h c).2.1.trans ?_, (h c).2.2⟩) (Cert.Reference12Ideal.Value.run m' ρ')
    · exact (Cert.Reference12Ideal.Read.val_main_v34_eq (F := Ideal) _ _ _ _ _).trans <| Cert.Proof.congr5 (Cert.Reference12Ideal.Read.val_main_v34 (F := Ideal)) ((hag c).1) ((hag c).2.1) ((hag c).2.2.1) ((hag c).2.2.2.1) ((hag c).2.2.2.2)
    · exact (Cert.Reference12Ideal.Read.val_main_v36_eq (F := Ideal) _ _).trans <| congrArg₂ (Cert.Reference12Ideal.Read.val_main_v36 (F := Ideal)) ((hag c).1) ((hag c).2.2.1)

/-- The router's gates, of finite arrays: kernel and reference end with the same array over the extended reals. -/
theorem algebraic_13 : Cert.algebraic_Kernel13Ideal_Reference13Ideal_pre_finite (hPre_finite := Cert.Kernel13Ideal.Router.finite_facts) := by
  intro m ρ m' ρ' hpre hag
  refine ⟨fun c => Cert.Kernel13Ideal.Router.G m c, ?_, ?_⟩
  · haveI := Cert.Kernel13Ideal.Router.finite_facts
    exact (θ_run _ _ _).mono (fun r h c => ⟨(h c).1.trans (Cert.Kernel13Ideal.Router.final m c (Cert.Kernel13Ideal.Router.real_of _ _ _ _ (hpre c))), (h c).2⟩) (Cert.Kernel13Ideal.Router.run m ρ)
  · refine (θ_run _ _ _).mono (fun r h c => ⟨(h c).1.trans ?_, (h c).2⟩) (Cert.Reference13Ideal.Value.run m' ρ')
    exact (Cert.Reference13Ideal.Read.val_main_v36_eq (F := Ideal) _ _).trans <| Cert.Proof.congr4 (Cert.Reference13Ideal.Read.val_main_v36 (F := Ideal)) ((hag c).1) ((hag c).2.1) ((hag c).2.2.1) ((hag c).2.2.2)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel13Ideal.Router.finite_facts,
  frame_Kernel, frame_KernelIdeal, frame_ReferenceIdeal, frame_Kernel2, frame_Kernel2Ideal, frame_Reference2Ideal, frame_Kernel3, frame_Kernel3Ideal, frame_Reference3Ideal, frame_Kernel4, frame_Kernel4Ideal, frame_Reference4Ideal, frame_Kernel5, frame_Kernel5Ideal, frame_Reference5Ideal, frame_Kernel6, frame_Kernel6Ideal, frame_Reference6Ideal, frame_Kernel7, frame_Kernel7Ideal, frame_Reference7Ideal, frame_Kernel8, frame_Kernel8Ideal, frame_Reference8Ideal, frame_Kernel9, frame_Kernel9Ideal, frame_Reference9Ideal, frame_Kernel10, frame_Kernel10Ideal, frame_Reference10Ideal, frame_Kernel11, frame_Kernel11Ideal, frame_Reference11Ideal, frame_Kernel12, frame_Kernel12Ideal, frame_Reference12Ideal, frame_Kernel13, frame_Kernel13Ideal, fun m ρ _ => frame_Kernel13Ideal m ρ trivial, frame_Reference13Ideal, fun m ρ _ => frame_Reference13Ideal m ρ trivial,
  trivial, algebraic_1, trivial, algebraic_2, trivial, algebraic_3, trivial, algebraic_4, trivial, algebraic_5, trivial, algebraic_6, trivial, algebraic_7, trivial, algebraic_8, trivial, algebraic_9, trivial, algebraic_10, trivial, algebraic_11, trivial, algebraic_12, trivial, algebraic_13⟩

end Cert.Proof

end
